-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_not_zero [hPre_step_not_zero : Cert.Pre_step_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_step_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_not_zero [hPre_step_not_zero : Cert.Pre_step_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_step_not_zero [hKernelIdeal : Cert.KernelIdeal.Facts] [hPre_step_not_zero : Cert.Pre_step_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_step_not_zero [hReferenceIdeal : Cert.ReferenceIdeal.Facts] [hPre_step_not_zero : Cert.Pre_step_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_step_not_zero [hKernelIdeal : Cert.KernelIdeal.Facts] [hReferenceIdeal : Cert.ReferenceIdeal.Facts] [hPre_step_not_zero : Cert.Pre_step_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_v16_3) = v3 c
          ∧ r.2.mem ((c.tc : Thread Cert.ReferenceIdeal.nD Cert.ReferenceIdeal.τ).loc Cert.ReferenceIdeal.main_v16_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_step_not_zero : Cert.Pre_step_not_zero.Facts),
    quiescent_Kernel (hKernel := hKernel)
    ∧ quiescent_KernelIdeal (hKernelIdeal := hKernelIdeal)
    ∧ quiescent_KernelIdeal_pre_step_not_zero (hKernelIdeal := hKernelIdeal) (hPre_step_not_zero := hPre_step_not_zero)
    ∧ quiescent_ReferenceIdeal (hReferenceIdeal := hReferenceIdeal)
    ∧ quiescent_ReferenceIdeal_pre_step_not_zero (hReferenceIdeal := hReferenceIdeal) (hPre_step_not_zero := hPre_step_not_zero)
    ∧ preserves_Kernel_KernelIdeal
    ∧ algebraic_KernelIdeal_ReferenceIdeal_pre_step_not_zero (hKernelIdeal := hKernelIdeal) (hReferenceIdeal := hReferenceIdeal) (hPre_step_not_zero := hPre_step_not_zero)
-- ==== Pre_step_not_zero.lean ====
abbrev S4096x8192 : Shape := ⟨2, ![4096, 8192]⟩
abbrev S4096x64 : Shape := ⟨2, ![4096, 64]⟩
abbrev S_ : Shape := ⟨0, ![]⟩

class Facts : Prop where

variable [Facts]

def fn {F : FTy → Type} [FloatOps F] (main_arg0 : FVec F S4096x8192 .f32) (main_arg1 : FVec F S4096x8192 .bf16) (main_arg2 : FVec F S4096x8192 .fp8e4m3) (main_arg3 : FVec F S4096x64 .f32) (main_arg4 : FVec F S4096x8192 .fp8e5m2) (main_arg5 : FVec F S4096x64 .f32) (main_arg6 : IVec S_ 32) : IVec S_ 1 :=
  let main_c : IVec S_ 32 := constantI S_ 32 0#32
  let main_v0 : IVec S_ 1 := cmpi .ne main_arg6 main_c
  main_v0
-- ==== Kernel.lean ====
abbrev S4096x8192 : Shape := ⟨2, ![4096, 8192]⟩
abbrev S4096x64 : Shape := ⟨2, ![4096, 64]⟩
abbrev S_ : Shape := ⟨0, ![]⟩
abbrev S16x128 : Shape := ⟨2, ![16, 128]⟩
abbrev S256x8192 : Shape := ⟨2, ![256, 8192]⟩
abbrev S1 : Shape := ⟨1, ![1]⟩
abbrev S3 : Shape := ⟨1, ![3]⟩
abbrev S64x8192 : Shape := ⟨2, ![64, 8192]⟩
abbrev S64x64 : Shape := ⟨2, ![64, 64]⟩
abbrev S64x128 : Shape := ⟨2, ![64, 128]⟩
abbrev S64x1 : Shape := ⟨2, ![64, 1]⟩
abbrev S64 : Shape := ⟨1, ![64]⟩
abbrev S64x256 : Shape := ⟨2, ![64, 256]⟩

abbrev nBuf : Space → Nat
  | .hbm => 39
  | .vmem => 25
  | .smem => 1
  | _ => 0

abbrev bufTy : (tb : Table) → Fin (tcTables nBuf tb) → BufTy
  | .hbm, ⟨0, _⟩ => ⟨S4096x8192, .f32⟩
  | .hbm, ⟨1, _⟩ => ⟨S4096x8192, .bf16⟩
  | .hbm, ⟨2, _⟩ => ⟨S4096x8192, .fp8e4m3⟩
  | .hbm, ⟨3, _⟩ => ⟨S4096x64, .f32⟩
  | .hbm, ⟨4, _⟩ => ⟨S4096x8192, .fp8e5m2⟩
  | .hbm, ⟨5, _⟩ => ⟨S4096x64, .f32⟩
  | .hbm, ⟨6, _⟩ => ⟨S_, .i32⟩
  | .hbm, ⟨7, _⟩ => ⟨S16x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S3, .f32⟩
  | .hbm, ⟨34, _⟩ => ⟨S4096x8192, .f32⟩
  | .hbm, ⟨35, _⟩ => ⟨S4096x8192, .fp8e4m3⟩
  | .hbm, ⟨36, _⟩ => ⟨S4096x64, .f32⟩
  | .hbm, ⟨37, _⟩ => ⟨S4096x8192, .fp8e5m2⟩
  | .hbm, ⟨38, _⟩ => ⟨S4096x64, .f32⟩
  | .local _ .vmem, ⟨0, _⟩ => ⟨S256x8192, .bf16⟩
  | .local _ .vmem, ⟨1, _⟩ => ⟨S256x8192, .bf16⟩
  | .local _ .vmem, ⟨2, _⟩ => ⟨S16x128, .f32⟩
  | .local _ .vmem, ⟨3, _⟩ => ⟨S64x8192, .f32⟩
  | .local _ .vmem, ⟨4, _⟩ => ⟨S64x8192, .f32⟩
  | .local _ .vmem, ⟨5, _⟩ => ⟨S64x8192, .bf16⟩
  | .local _ .vmem, ⟨6, _⟩ => ⟨S64x8192, .bf16⟩
  | .local _ .vmem, ⟨7, _⟩ => ⟨S64x8192, .fp8e4m3⟩
  | .local _ .vmem, ⟨8, _⟩ => ⟨S64x8192, .fp8e4m3⟩
  | .local _ .vmem, ⟨9, _⟩ => ⟨S64x64, .f32⟩
  | .local _ .vmem, ⟨10, _⟩ => ⟨S64x64, .f32⟩
  | .local _ .vmem, ⟨11, _⟩ => ⟨S64x8192, .fp8e5m2⟩
  | .local _ .vmem, ⟨12, _⟩ => ⟨S64x8192, .fp8e5m2⟩
  | .local _ .vmem, ⟨13, _⟩ => ⟨S64x64, .f32⟩
  | .local _ .vmem, ⟨14, _⟩ => ⟨S64x64, .f32⟩
  | .local _ .vmem, ⟨15, _⟩ => ⟨S64x8192, .f32⟩
  | .local _ .vmem, ⟨16, _⟩ => ⟨S64x8192, .f32⟩
  | .local _ .vmem, ⟨17, _⟩ => ⟨S64x8192, .fp8e4m3⟩
  | .local _ .vmem, ⟨18, _⟩ => ⟨S64x8192, .fp8e4m3⟩
  | .local _ .vmem, ⟨19, _⟩ => ⟨S64x64, .f32⟩
  | .local _ .vmem, ⟨20, _⟩ => ⟨S64x64, .f32⟩
  | .local _ .vmem, ⟨21, _⟩ => ⟨S64x8192, .fp8e5m2⟩
  | .local _ .vmem, ⟨22, _⟩ => ⟨S64x8192, .fp8e5m2⟩
  | .local _ .vmem, ⟨23, _⟩ => ⟨S64x64, .f32⟩
  | .local _ .vmem, ⟨24, _⟩ => ⟨S64x64, .f32⟩
  | .local _ .smem, ⟨0, _⟩ => ⟨S3, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_cst_6 : Ref sig .tc := ⟨.hbm, 24, rfl⟩
abbrev main_v10 : Ref sig .tc := ⟨.hbm, 25, rfl⟩
abbrev main_cst_7 : Ref sig .tc := ⟨.hbm, 26, rfl⟩
abbrev main_v11 : Ref sig .tc := ⟨.hbm, 27, rfl⟩
abbrev main_cst_8 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev main_v17_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_off1 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_6 : BitVec 32 := 16#32
  let v10 : BitVec 32 := Scalar.muli arg3 c16_i32_6
  let v11 : Index := Scalar.indexCast v10
  let c0_7 : Index := 0#32
  ![v11.toNat, 0]
def k0_off2 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_8 : BitVec 32 := 16#32
  let v16 : BitVec 32 := Scalar.muli arg3 c16_i32_8
  let v17 : Index := Scalar.indexCast v16
  let c128 : Index := 128#32
  ![v17.toNat, 128]
def k0_off3 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_9 : BitVec 32 := 16#32
  let v22 : BitVec 32 := Scalar.muli arg3 c16_i32_9
  let v23 : Index := Scalar.indexCast v22
  let c256 : Index := 256#32
  ![v23.toNat, 256]
def k0_off4 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_10 : BitVec 32 := 16#32
  let v28 : BitVec 32 := Scalar.muli arg3 c16_i32_10
  let v29 : Index := Scalar.indexCast v28
  let c384 : Index := 384#32
  ![v29.toNat, 384]
def k0_off5 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_11 : BitVec 32 := 16#32
  let v34 : BitVec 32 := Scalar.muli arg3 c16_i32_11
  let v35 : Index := Scalar.indexCast v34
  let c512 : Index := 512#32
  ![v35.toNat, 512]
def k0_off6 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_12 : BitVec 32 := 16#32
  let v40 : BitVec 32 := Scalar.muli arg3 c16_i32_12
  let v41 : Index := Scalar.indexCast v40
  let c640 : Index := 640#32
  ![v41.toNat, 640]
def k0_off7 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_13 : BitVec 32 := 16#32
  let v46 : BitVec 32 := Scalar.muli arg3 c16_i32_13
  let v47 : Index := Scalar.indexCast v46
  let c768 : Index := 768#32
  ![v47.toNat, 768]
def k0_off8 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_14 : BitVec 32 := 16#32
  let v52 : BitVec 32 := Scalar.muli arg3 c16_i32_14
  let v53 : Index := Scalar.indexCast v52
  let c896 : Index := 896#32
  ![v53.toNat, 896]
def k0_off9 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_15 : BitVec 32 := 16#32
  let v58 : BitVec 32 := Scalar.muli arg3 c16_i32_15
  let v59 : Index := Scalar.indexCast v58
  let c1024 : Index := 1024#32
  ![v59.toNat, 1024]
def k0_off10 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_16 : BitVec 32 := 16#32
  let v64 : BitVec 32 := Scalar.muli arg3 c16_i32_16
  let v65 : Index := Scalar.indexCast v64
  let c1152 : Index := 1152#32
  ![v65.toNat, 1152]
def k0_off11 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_17 : BitVec 32 := 16#32
  let v70 : BitVec 32 := Scalar.muli arg3 c16_i32_17
  let v71 : Index := Scalar.indexCast v70
  let c1280 : Index := 1280#32
  ![v71.toNat, 1280]
def k0_off12 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_18 : BitVec 32 := 16#32
  let v76 : BitVec 32 := Scalar.muli arg3 c16_i32_18
  let v77 : Index := Scalar.indexCast v76
  let c1408 : Index := 1408#32
  ![v77.toNat, 1408]
def k0_off13 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_19 : BitVec 32 := 16#32
  let v82 : BitVec 32 := Scalar.muli arg3 c16_i32_19
  let v83 : Index := Scalar.indexCast v82
  let c1536 : Index := 1536#32
  ![v83.toNat, 1536]
def k0_off14 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_20 : BitVec 32 := 16#32
  let v88 : BitVec 32 := Scalar.muli arg3 c16_i32_20
  let v89 : Index := Scalar.indexCast v88
  let c1664 : Index := 1664#32
  ![v89.toNat, 1664]
def k0_off15 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_21 : BitVec 32 := 16#32
  let v94 : BitVec 32 := Scalar.muli arg3 c16_i32_21
  let v95 : Index := Scalar.indexCast v94
  let c1792 : Index := 1792#32
  ![v95.toNat, 1792]
def k0_off16 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_22 : BitVec 32 := 16#32
  let v100 : BitVec 32 := Scalar.muli arg3 c16_i32_22
  let v101 : Index := Scalar.indexCast v100
  let c1920 : Index := 1920#32
  ![v101.toNat, 1920]
def k0_off17 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_23 : BitVec 32 := 16#32
  let v106 : BitVec 32 := Scalar.muli arg3 c16_i32_23
  let v107 : Index := Scalar.indexCast v106
  let c2048 : Index := 2048#32
  ![v107.toNat, 2048]
def k0_off18 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_24 : BitVec 32 := 16#32
  let v112 : BitVec 32 := Scalar.muli arg3 c16_i32_24
  let v113 : Index := Scalar.indexCast v112
  let c2176 : Index := 2176#32
  ![v113.toNat, 2176]
def k0_off19 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_25 : BitVec 32 := 16#32
  let v118 : BitVec 32 := Scalar.muli arg3 c16_i32_25
  let v119 : Index := Scalar.indexCast v118
  let c2304 : Index := 2304#32
  ![v119.toNat, 2304]
def k0_off20 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_26 : BitVec 32 := 16#32
  let v124 : BitVec 32 := Scalar.muli arg3 c16_i32_26
  let v125 : Index := Scalar.indexCast v124
  let c2432 : Index := 2432#32
  ![v125.toNat, 2432]
def k0_off21 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_27 : BitVec 32 := 16#32
  let v130 : BitVec 32 := Scalar.muli arg3 c16_i32_27
  let v131 : Index := Scalar.indexCast v130
  let c2560 : Index := 2560#32
  ![v131.toNat, 2560]
def k0_off22 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_28 : BitVec 32 := 16#32
  let v136 : BitVec 32 := Scalar.muli arg3 c16_i32_28
  let v137 : Index := Scalar.indexCast v136
  let c2688 : Index := 2688#32
  ![v137.toNat, 2688]
def k0_off23 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_29 : BitVec 32 := 16#32
  let v142 : BitVec 32 := Scalar.muli arg3 c16_i32_29
  let v143 : Index := Scalar.indexCast v142
  let c2816 : Index := 2816#32
  ![v143.toNat, 2816]
def k0_off24 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_30 : BitVec 32 := 16#32
  let v148 : BitVec 32 := Scalar.muli arg3 c16_i32_30
  let v149 : Index := Scalar.indexCast v148
  let c2944 : Index := 2944#32
  ![v149.toNat, 2944]
def k0_off25 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_31 : BitVec 32 := 16#32
  let v154 : BitVec 32 := Scalar.muli arg3 c16_i32_31
  let v155 : Index := Scalar.indexCast v154
  let c3072 : Index := 3072#32
  ![v155.toNat, 3072]
def k0_off26 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_32 : BitVec 32 := 16#32
  let v160 : BitVec 32 := Scalar.muli arg3 c16_i32_32
  let v161 : Index := Scalar.indexCast v160
  let c3200 : Index := 3200#32
  ![v161.toNat, 3200]
def k0_off27 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_33 : BitVec 32 := 16#32
  let v166 : BitVec 32 := Scalar.muli arg3 c16_i32_33
  let v167 : Index := Scalar.indexCast v166
  let c3328 : Index := 3328#32
  ![v167.toNat, 3328]
def k0_off28 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_34 : BitVec 32 := 16#32
  let v172 : BitVec 32 := Scalar.muli arg3 c16_i32_34
  let v173 : Index := Scalar.indexCast v172
  let c3456 : Index := 3456#32
  ![v173.toNat, 3456]
def k0_off29 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_35 : BitVec 32 := 16#32
  let v178 : BitVec 32 := Scalar.muli arg3 c16_i32_35
  let v179 : Index := Scalar.indexCast v178
  let c3584 : Index := 3584#32
  ![v179.toNat, 3584]
def k0_off30 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_36 : BitVec 32 := 16#32
  let v184 : BitVec 32 := Scalar.muli arg3 c16_i32_36
  let v185 : Index := Scalar.indexCast v184
  let c3712 : Index := 3712#32
  ![v185.toNat, 3712]
def k0_off31 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_37 : BitVec 32 := 16#32
  let v190 : BitVec 32 := Scalar.muli arg3 c16_i32_37
  let v191 : Index := Scalar.indexCast v190
  let c3840 : Index := 3840#32
  ![v191.toNat, 3840]
def k0_off32 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_38 : BitVec 32 := 16#32
  let v196 : BitVec 32 := Scalar.muli arg3 c16_i32_38
  let v197 : Index := Scalar.indexCast v196
  let c3968 : Index := 3968#32
  ![v197.toNat, 3968]
def k0_off33 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_39 : BitVec 32 := 16#32
  let v202 : BitVec 32 := Scalar.muli arg3 c16_i32_39
  let v203 : Index := Scalar.indexCast v202
  let c4096 : Index := 4096#32
  ![v203.toNat, 4096]
def k0_off34 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_40 : BitVec 32 := 16#32
  let v208 : BitVec 32 := Scalar.muli arg3 c16_i32_40
  let v209 : Index := Scalar.indexCast v208
  let c4224 : Index := 4224#32
  ![v209.toNat, 4224]
def k0_off35 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_41 : BitVec 32 := 16#32
  let v214 : BitVec 32 := Scalar.muli arg3 c16_i32_41
  let v215 : Index := Scalar.indexCast v214
  let c4352 : Index := 4352#32
  ![v215.toNat, 4352]
def k0_off36 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_42 : BitVec 32 := 16#32
  let v220 : BitVec 32 := Scalar.muli arg3 c16_i32_42
  let v221 : Index := Scalar.indexCast v220
  let c4480 : Index := 4480#32
  ![v221.toNat, 4480]
def k0_off37 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_43 : BitVec 32 := 16#32
  let v226 : BitVec 32 := Scalar.muli arg3 c16_i32_43
  let v227 : Index := Scalar.indexCast v226
  let c4608 : Index := 4608#32
  ![v227.toNat, 4608]
def k0_off38 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_44 : BitVec 32 := 16#32
  let v232 : BitVec 32 := Scalar.muli arg3 c16_i32_44
  let v233 : Index := Scalar.indexCast v232
  let c4736 : Index := 4736#32
  ![v233.toNat, 4736]
def k0_off39 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_45 : BitVec 32 := 16#32
  let v238 : BitVec 32 := Scalar.muli arg3 c16_i32_45
  let v239 : Index := Scalar.indexCast v238
  let c4864 : Index := 4864#32
  ![v239.toNat, 4864]
def k0_off40 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_46 : BitVec 32 := 16#32
  let v244 : BitVec 32 := Scalar.muli arg3 c16_i32_46
  let v245 : Index := Scalar.indexCast v244
  let c4992 : Index := 4992#32
  ![v245.toNat, 4992]
def k0_off41 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_47 : BitVec 32 := 16#32
  let v250 : BitVec 32 := Scalar.muli arg3 c16_i32_47
  let v251 : Index := Scalar.indexCast v250
  let c5120 : Index := 5120#32
  ![v251.toNat, 5120]
def k0_off42 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_48 : BitVec 32 := 16#32
  let v256 : BitVec 32 := Scalar.muli arg3 c16_i32_48
  let v257 : Index := Scalar.indexCast v256
  let c5248 : Index := 5248#32
  ![v257.toNat, 5248]
def k0_off43 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_49 : BitVec 32 := 16#32
  let v262 : BitVec 32 := Scalar.muli arg3 c16_i32_49
  let v263 : Index := Scalar.indexCast v262
  let c5376 : Index := 5376#32
  ![v263.toNat, 5376]
def k0_off44 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_50 : BitVec 32 := 16#32
  let v268 : BitVec 32 := Scalar.muli arg3 c16_i32_50
  let v269 : Index := Scalar.indexCast v268
  let c5504 : Index := 5504#32
  ![v269.toNat, 5504]
def k0_off45 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_51 : BitVec 32 := 16#32
  let v274 : BitVec 32 := Scalar.muli arg3 c16_i32_51
  let v275 : Index := Scalar.indexCast v274
  let c5632 : Index := 5632#32
  ![v275.toNat, 5632]
def k0_off46 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_52 : BitVec 32 := 16#32
  let v280 : BitVec 32 := Scalar.muli arg3 c16_i32_52
  let v281 : Index := Scalar.indexCast v280
  let c5760 : Index := 5760#32
  ![v281.toNat, 5760]
def k0_off47 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_53 : BitVec 32 := 16#32
  let v286 : BitVec 32 := Scalar.muli arg3 c16_i32_53
  let v287 : Index := Scalar.indexCast v286
  let c5888 : Index := 5888#32
  ![v287.toNat, 5888]
def k0_off48 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_54 : BitVec 32 := 16#32
  let v292 : BitVec 32 := Scalar.muli arg3 c16_i32_54
  let v293 : Index := Scalar.indexCast v292
  let c6016 : Index := 6016#32
  ![v293.toNat, 6016]
def k0_off49 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_55 : BitVec 32 := 16#32
  let v298 : BitVec 32 := Scalar.muli arg3 c16_i32_55
  let v299 : Index := Scalar.indexCast v298
  let c6144 : Index := 6144#32
  ![v299.toNat, 6144]
def k0_off50 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_56 : BitVec 32 := 16#32
  let v304 : BitVec 32 := Scalar.muli arg3 c16_i32_56
  let v305 : Index := Scalar.indexCast v304
  let c6272 : Index := 6272#32
  ![v305.toNat, 6272]
def k0_off51 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_57 : BitVec 32 := 16#32
  let v310 : BitVec 32 := Scalar.muli arg3 c16_i32_57
  let v311 : Index := Scalar.indexCast v310
  let c6400 : Index := 6400#32
  ![v311.toNat, 6400]
def k0_off52 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_58 : BitVec 32 := 16#32
  let v316 : BitVec 32 := Scalar.muli arg3 c16_i32_58
  let v317 : Index := Scalar.indexCast v316
  let c6528 : Index := 6528#32
  ![v317.toNat, 6528]
def k0_off53 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_59 : BitVec 32 := 16#32
  let v322 : BitVec 32 := Scalar.muli arg3 c16_i32_59
  let v323 : Index := Scalar.indexCast v322
  let c6656 : Index := 6656#32
  ![v323.toNat, 6656]
def k0_off54 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_60 : BitVec 32 := 16#32
  let v328 : BitVec 32 := Scalar.muli arg3 c16_i32_60
  let v329 : Index := Scalar.indexCast v328
  let c6784 : Index := 6784#32
  ![v329.toNat, 6784]
def k0_off55 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_61 : BitVec 32 := 16#32
  let v334 : BitVec 32 := Scalar.muli arg3 c16_i32_61
  let v335 : Index := Scalar.indexCast v334
  let c6912 : Index := 6912#32
  ![v335.toNat, 6912]
def k0_off56 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_62 : BitVec 32 := 16#32
  let v340 : BitVec 32 := Scalar.muli arg3 c16_i32_62
  let v341 : Index := Scalar.indexCast v340
  let c7040 : Index := 7040#32
  ![v341.toNat, 7040]
def k0_off57 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_63 : BitVec 32 := 16#32
  let v346 : BitVec 32 := Scalar.muli arg3 c16_i32_63
  let v347 : Index := Scalar.indexCast v346
  let c7168 : Index := 7168#32
  ![v347.toNat, 7168]
def k0_off58 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_64 : BitVec 32 := 16#32
  let v352 : BitVec 32 := Scalar.muli arg3 c16_i32_64
  let v353 : Index := Scalar.indexCast v352
  let c7296 : Index := 7296#32
  ![v353.toNat, 7296]
def k0_off59 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_65 : BitVec 32 := 16#32
  let v358 : BitVec 32 := Scalar.muli arg3 c16_i32_65
  let v359 : Index := Scalar.indexCast v358
  let c7424 : Index := 7424#32
  ![v359.toNat, 7424]
def k0_off60 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_66 : BitVec 32 := 16#32
  let v364 : BitVec 32 := Scalar.muli arg3 c16_i32_66
  let v365 : Index := Scalar.indexCast v364
  let c7552 : Index := 7552#32
  ![v365.toNat, 7552]
def k0_off61 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_67 : BitVec 32 := 16#32
  let v370 : BitVec 32 := Scalar.muli arg3 c16_i32_67
  let v371 : Index := Scalar.indexCast v370
  let c7680 : Index := 7680#32
  ![v371.toNat, 7680]
def k0_off62 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_68 : BitVec 32 := 16#32
  let v376 : BitVec 32 := Scalar.muli arg3 c16_i32_68
  let v377 : Index := Scalar.indexCast v376
  let c7808 : Index := 7808#32
  ![v377.toNat, 7808]
def k0_off63 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_69 : BitVec 32 := 16#32
  let v382 : BitVec 32 := Scalar.muli arg3 c16_i32_69
  let v383 : Index := Scalar.indexCast v382
  let c7936 : Index := 7936#32
  ![v383.toNat, 7936]
def k0_off64 (k0_t1 : Fin k0_t1_loop.trips) : Fin 2 → Nat :=
  let c0_i32_1 : BitVec 32 := 0#32
  let c1_i32 : BitVec 32 := 1#32
  let arg3 : BitVec 32 := Scf.iv c0_i32_1 c1_i32 k0_t1
  let c16_i32_70 : BitVec 32 := 16#32
  let v388 : BitVec 32 := Scalar.muli arg3 c16_i32_70
  let v389 : Index := Scalar.indexCast v388
  let c8064 : Index := 8064#32
  ![v389.toNat, 8064]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x8192 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x8192 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x8192 .fp8e4m3 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x8192 .fp8e5m2 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S4096x8192 : Shape := ⟨2, ![4096, 8192]⟩
abbrev S4096x64 : Shape := ⟨2, ![4096, 64]⟩
abbrev S_ : Shape := ⟨0, ![]⟩
abbrev S1x1 : Shape := ⟨2, ![1, 1]⟩
abbrev S4096x64x128 : Shape := ⟨3, ![4096, 64, 128]⟩
abbrev S4096x64x1 : Shape := ⟨3, ![4096, 64, 1]⟩

abbrev nBuf : Space → Nat
  | .hbm => 36
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S4096x8192, .bf16⟩
  | .hbm, ⟨2, _⟩ => ⟨S4096x8192, .fp8e4m3⟩
  | .hbm, ⟨3, _⟩ => ⟨S4096x64, .f32⟩
  | .hbm, ⟨4, _⟩ => ⟨S4096x8192, .fp8e5m2⟩
  | .hbm, ⟨5, _⟩ => ⟨S4096x64, .f32⟩
  | .hbm, ⟨6, _⟩ => ⟨S_, .i32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S4096x8192, .f32⟩
  | .hbm, ⟨32, _⟩ => ⟨S4096x8192, .fp8e4m3⟩
  | .hbm, ⟨33, _⟩ => ⟨S4096x64, .f32⟩
  | .hbm, ⟨34, _⟩ => ⟨S4096x8192, .fp8e5m2⟩
  | .hbm, ⟨35, _⟩ => ⟨S4096x64, .f32⟩
  | .local _ .vmem, ⟨0, _⟩ => ⟨S4096x8192, .f32⟩
  | .local _ .vmem, ⟨1, _⟩ => ⟨S4096x8192, .f32⟩
  | .local _ .vmem, ⟨2, _⟩ => ⟨S4096x8192, .fp8e4m3⟩
  | .local _ .vmem, ⟨3, _⟩ => ⟨S4096x64, .f32⟩
  | .local _ .vmem, ⟨4, _⟩ => ⟨S4096x8192, .fp8e5m2⟩
  | .local _ .vmem, ⟨5, _⟩ => ⟨S4096x64, .f32⟩
  | .local _ .vmem, ⟨6, _⟩ => ⟨S1x1, .f32⟩
  | .local _ .vmem, ⟨7, _⟩ => ⟨S1x1, .f32⟩
  | .local _ .vmem, ⟨8, _⟩ => ⟨S4096x8192, .f32⟩
  | .local _ .vmem, ⟨9, _⟩ => ⟨S4096x8192, .fp8e4m3⟩
  | .local _ .vmem, ⟨10, _⟩ => ⟨S4096x64, .f32⟩
  | .local _ .vmem, ⟨11, _⟩ => ⟨S4096x8192, .fp8e5m2⟩
  | .local _ .vmem, ⟨12, _⟩ => ⟨S4096x64, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x8192 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KRun.lean ====
/-
  The kernel's run: every execution ends, with the five results at what the main call leaves, the arguments as given and every
  counter at zero.
-/
module

public import proofs.«01_k».proof.Proof.Gen.KernelIdeal.Frame

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's segments, read at the final state. -/
theorem run : θ_run defs (onTc (τ := τ) (main (F := F))) ⟨m, fun _ => 0, ρ⟩ (fun r => (∀ c : Dev nD,
      r.2.mem ((c.tc : Thread nD τ).loc main_v17_0) = (dat1 (V2 m ρ) c).arrAt 7 cfg1.N ∧
      r.2.mem ((c.tc : Thread nD τ).loc main_v17_1) = (dat1 (V2 m ρ) c).arrAt 8 cfg1.N ∧
      r.2.mem ((c.tc : Thread nD τ).loc main_v17_2) = (dat1 (V2 m ρ) c).arrAt 9 cfg1.N ∧
      r.2.mem ((c.tc : Thread nD τ).loc main_v17_3) = (dat1 (V2 m ρ) c).arrAt 10 cfg1.N ∧
      r.2.mem ((c.tc : Thread nD τ).loc main_v17_4) = (dat1 (V2 m ρ) c).arrAt 11 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v17_0 (by decide))).trans (W3_arr m ρ c 7),
       (h c _ (mem_uc main_v17_1 (by decide))).trans (W3_arr m ρ c 8),
       (h c _ (mem_uc main_v17_2 (by decide))).trans (W3_arr m ρ c 9),
       (h c _ (mem_uc main_v17_3 (by decide))).trans (W3_arr m ρ c 10),
       (h c _ (mem_uc main_v17_4 (by decide))).trans (W3_arr m ρ c 11),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩), funext fun g => hz g (.inr (no_unscoped g.2))⟩)

end Cert.KRun
-- ==== Proof.KTile.lean ====
/-
  One group of 128 columns of the kernel's main call, as one family over the group's number `j`: the printed body is the same
  chain of operations written out 64 times, and here it is written once. `Scalars` of the step come in `sc` (the clip factor and
  the two bias corrections). Nothing here is evaluated yet; `KElem` reads these functions at an index.
-/
module

public import proofs.«01_k».proof.Proof.Gen.KernelIdeal.Skeleton

@[expose] public section
set_option maxRecDepth 16384
noncomputable section
namespace Cert.KTile
open Idealize.ShloMosaic Cert.KernelIdeal Cert.KernelIdeal.Gen

/-- The rectangle of group `j` (columns `128 j` to `128 j + 127`) lies in the block of 64 rows. -/
theorem inbG (j : ℕ) (hj : j < 64) : ∀ a, (![0, 128 * j] : Fin 2 → ℕ) a + S64x128.size a ≤ S64x8192.size a := by
  intro a; fin_cases a
  · exact Nat.le_refl 64
  · show 128 * j + 128 ≤ 8192; omega

/-- Column `j` lies in the block of 64 scales. -/
theorem inbS (j : ℕ) (hj : j < 64) : ∀ a, (![0, j] : Fin 2 → ℕ) a + S64x1.size a ≤ S64x64.size a := by
  intro a; fin_cases a
  · exact Nat.le_refl 64
  · show j + 1 ≤ 64; omega

/-- Column `j` of the block of scales, as a slice. -/
theorem slicesS (j : ℕ) (hj : j < 64) : S64x64.Slices ![0, j] S64x1 := ⟨rfl, inbS j hj⟩

variable {F : FTy → Type} [FloatOps F]

/-- The clipped gradient of the group. -/
def gG (s0 : Elt F .f32) (g : Vec F S64x128 .bf16) : FVec F S64x128 .f32 :=
  mulf (extf .f32 g bitsLt_bf16_f32) (broadcast S64x128 s0)

/-- The new first moment of group `j`. -/
def mG (j : ℕ) (hj : j < 64) (s0 : Elt F .f32) (ms : Vec F S64x64 .f32) (g : Vec F S64x128 .bf16) (mc : Vec F S64x128 .fp8e4m3) :
    FVec F S64x128 .f32 :=
  addf (mulf (broadcast S64x128 (Scalar.ofBits .f32 0x3F666666#32))
      (mulf (extf .f32 mc bitsLt_fp8e4m3_f32) (broadcastTo S64x128 (extractStridedSlice S64x1 ![0, j] (k1_pay1 ms) (slicesS j hj)) broadcasts_S64x1_S64x128)))
    (mulf (broadcast S64x128 (Scalar.ofBits .f32 0x3DCCCCCD#32)) (gG s0 g))

/-- The new second moment of group `j`. -/
def vG (j : ℕ) (hj : j < 64) (s0 : Elt F .f32) (vs : Vec F S64x64 .f32) (g : Vec F S64x128 .bf16) (vc : Vec F S64x128 .fp8e5m2) :
    FVec F S64x128 .f32 :=
  addf (mulf (broadcast S64x128 (Scalar.ofBits .f32 0x3F7FBE77#32))
      (mulf (extf .f32 vc bitsLt_fp8e5m2_f32) (broadcastTo S64x128 (extractStridedSlice S64x1 ![0, j] (k1_pay2 vs) (slicesS j hj)) broadcasts_S64x1_S64x128)))
    (mulf (broadcast S64x128 (Scalar.ofBits .f32 0x3A83126F#32)) (mulf (gG s0 g) (gG s0 g)))

/-- The group's largest magnitude times `1 / largest code`, row by row. -/
def tG (x : FVec F S64x128 .f32) (rc : BitVec 32) : FVec F S64x1 .f32 :=
  mulf (shapeCast S64x1 (multiReduction .maximumf [1] S64 (absf x) 0xFF800000#32 reduces_S64x128_S64 (.inl rfl) rfl) shapeCasts_S64_S64x1)
    (broadcast S64x1 (Scalar.ofBits .f32 rc))

/-- The exponent of `t`, read off by comparing it with the 256 powers of two. -/
def eG (t : FVec F S64x1 .f32) : IVec S64x1 32 :=
  let p := iota .tc S64x256 32 [1] iota_S64x256_d1_w32
  let k := shapeCast S64x1 (multiReductionI .maxsi [1] S64
    (select (cmpf .olt (broadcastTo S64x256 t broadcasts_S64x1_S64x256) (bitcastToFloat .f32 (shli p (broadcast S64x256 23#32)) : FVec F S64x256 .f32))
      (broadcast S64x256 0#32) p) 2147483648#32 reduces_S64x256_S64 rfl) shapeCasts_S64_S64x1
  select (ori (cmpf .oeq t (broadcast S64x1 (Scalar.ofBits .f32 0x00000000#32))) (cmpi .eq k (broadcast S64x1 255#32)))
    (broadcast S64x1 0#32) (subi k (broadcast S64x1 126#32))

/-- The new scale, a power of two. -/
def sG (t : FVec F S64x1 .f32) : FVec F S64x1 .f32 :=
  bitcastToFloat .f32 (shli (addi (eG t) (broadcast S64x1 127#32)) (broadcast S64x1 23#32))

/-- Its inverse. -/
def iG (t : FVec F S64x1 .f32) : FVec F S64x1 .f32 :=
  bitcastToFloat .f32 (shli (subi (broadcast S64x1 127#32) (eG t)) (broadcast S64x1 23#32))

/-- The values scaled by the inverse scale and clipped. -/
def cG (x : FVec F S64x128 .f32) (inv : FVec F S64x1 .f32) (lo hi : BitVec 32) : FVec F S64x128 .f32 :=
  minimumf (broadcast S64x128 (Scalar.ofBits .f32 hi)) (maximumf (broadcast S64x128 (Scalar.ofBits .f32 lo)) (mulf x (broadcastTo S64x128 inv broadcasts_S64x1_S64x128)))

/-- The parameter's step. -/
def dG (b1 b2 : Elt F .f32) (m v : FVec F S64x128 .f32) (p : Vec F S64x128 .f32) : FVec F S64x128 .f32 :=
  mulf (broadcast S64x128 (Scalar.ofBits .f32 0xBA83126F#32))
    (addf (divf (mulf m (broadcast S64x128 b1)) (addf (sqrt (mulf v (broadcast S64x128 b2))) (broadcast S64x128 (Scalar.ofBits .f32 0x322BCC77#32))))
      (mulf (broadcast S64x128 (Scalar.ofBits .f32 0x3C23D70A#32)) p))

end Cert.KTile
-- ==== Proof.KPieces.lean ====
/-
  What one grid point of the main call stores: the 64 stores of each output, as one family over the group's number.
-/
module

public import proofs.«01_k».proof.Proof.Gen.KernelIdeal.Frame
public import proofs.«01_k».proof.Proof.KTile

@[expose] public section
set_option maxRecDepth 65536
noncomputable section
namespace Cert.KPieces
open Idealize.ShloMosaic Idealize.ShloMosaic.TcCoe Idealize.SL.Sem Cert.KernelIdeal Cert.KernelIdeal.Gen Cert.KTile

variable {F : FTy → Type} [FloatOps F]
variable (c : Dev nD) (i : grid1.Coords)
  (arg1 : Memref sig .tc .smem S3 .f32) (harg1 : arg1.IsWhole) (arg2 : Memref sig .tc .vmem S64x8192 .f32) (harg2 : arg2.IsWhole)
  (arg3 : Memref sig .tc .vmem S64x8192 .bf16) (harg3 : arg3.IsWhole) (arg4 : Memref sig .tc .vmem S64x8192 .fp8e4m3) (harg4 : arg4.IsWhole)
  (arg5 : Memref sig .tc .vmem S64x64 .f32) (harg5 : arg5.IsWhole) (arg6 : Memref sig .tc .vmem S64x8192 .fp8e5m2) (harg6 : arg6.IsWhole)
  (arg7 : Memref sig .tc .vmem S64x64 .f32) (harg7 : arg7.IsWhole) (arg8 : Memref sig .tc .vmem S64x8192 .f32) (harg8 : arg8.IsWhole)
  (arg9 : Memref sig .tc .vmem S64x8192 .fp8e4m3) (harg9 : arg9.IsWhole) (arg10 : Memref sig .tc .vmem S64x64 .f32) (harg10 : arg10.IsWhole)
  (arg11 : Memref sig .tc .vmem S64x8192 .fp8e5m2) (harg11 : arg11.IsWhole) (arg12 : Memref sig .tc .vmem S64x64 .f32) (harg12 : arg12.IsWhole)
  (x0 : Vec F S3 .f32) (x1 : Vec F S64x8192 .f32) (x2 : Vec F S64x8192 .bf16) (x3 : Vec F S64x8192 .fp8e4m3) (x4 : Vec F S64x64 .f32)
  (x5 : Vec F S64x8192 .fp8e5m2) (x6 : Vec F S64x64 .f32)

/-- The three scalars as the body loads them. -/
def ldSc0 : Elt F .f32 := View.readAt (Elt F) arg1.view (Rect.unit (s := S3) ![0] S1.size inb_S3_S1_0).toLoadRect (harg1.unread x0) (Shape.Idx.first (by decide))
def ldSc1 : Elt F .f32 := View.readAt (Elt F) arg1.view (Rect.unit (s := S3) ![1] S1.size inb_S3_S1_1).toLoadRect (harg1.unread x0) (Shape.Idx.first (by decide))
def ldSc2 : Elt F .f32 := View.readAt (Elt F) arg1.view (Rect.unit (s := S3) ![2] S1.size inb_S3_S1_2).toLoadRect (harg1.unread x0) (Shape.Idx.first (by decide))

/-- A whole block of scales as the body loads it. -/
def ldS (arg : Memref sig .tc .vmem S64x64 .f32) (harg : arg.IsWhole) (x : Vec F S64x64 .f32) : Vec F S64x64 .f32 :=
  View.readAt (Elt F) arg.view (Rect.unit (s := S64x64) ![0, 0] S64x64.size inb_S64x64_S64x64_0_0).toLoadRect (harg.unread x)

/-- The columns of group `j` of a block as the body loads them. -/
def ldG {e : EltTy} (j : ℕ) (hj : j < 64) (arg : Memref sig .tc .vmem S64x8192 e) (harg : arg.IsWhole) (x : Vec F S64x8192 e) : Vec F S64x128 e :=
  View.readAt (Elt F) arg.view (Rect.unit (s := S64x8192) ![0, 128 * j] S64x128.size (inbG j hj)).toLoadRect (harg.unread x)

/-- The new moments of group `j` from the blocks. -/
def mT (j : ℕ) (hj : j < 64) : FVec F S64x128 .f32 :=
  mG j hj (ldSc0 arg1 harg1 x0) (ldS arg5 harg5 x4) (ldG j hj arg3 harg3 x2) (ldG j hj arg4 harg4 x3)
def vT (j : ℕ) (hj : j < 64) : FVec F S64x128 .f32 :=
  vG j hj (ldSc0 arg1 harg1 x0) (ldS arg7 harg7 x6) (ldG j hj arg3 harg3 x2) (ldG j hj arg6 harg6 x5)

/-- The last store comes first in the list: the family counts down. -/
theorem lt_rev (k : Fin 64) : 63 - k.val < 64 := by omega

/-- The step's stores. -/
theorem pieces7 :
    (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).1
    = List.ofFn fun k : Fin 64 => (⟨Rect.unit (s := S64x8192) ![0, 128 * (63 - k.val)] S64x128.size (inbG (63 - k.val) (lt_rev k)),
        dG (ldSc1 arg1 harg1 x0) (ldSc2 arg1 harg1 x0) (mT arg1 harg1 arg3 harg3 arg4 harg4 arg5 harg5 x0 x2 x3 x4 (63 - k.val) (lt_rev k))
        (vT arg1 harg1 arg3 harg3 arg6 harg6 arg7 harg7 x0 x2 x5 x6 (63 - k.val) (lt_rev k)) (ldG (63 - k.val) (lt_rev k) arg2 harg2 x1)⟩ : View.Piece (Elt F) S64x8192 .f32) := by
  sl_kernel_rfl

/-- The first moment's codes. -/
theorem pieces8 :
    (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.1
    = List.ofFn fun k : Fin 64 => (⟨Rect.unit (s := S64x8192) ![0, 128 * (63 - k.val)] S64x128.size (inbG (63 - k.val) (lt_rev k)),
        (truncf .fp8e4m3 (cG (mT arg1 harg1 arg3 harg3 arg4 harg4 arg5 harg5 x0 x2 x3 x4 (63 - k.val) (lt_rev k)) (iG (tG (mT arg1 harg1 arg3 harg3 arg4 harg4 arg5 harg5 x0 x2 x3 x4 (63 - k.val) (lt_rev k)) 0x3B124925#32)) 0xC3E00000#32 0x43E00000#32) bitsLt_fp8e4m3_f32 : FVec F S64x128 .fp8e4m3)⟩ : View.Piece (Elt F) S64x8192 .fp8e4m3) := by
  sl_kernel_rfl

/-- The first moment's scales. -/
theorem pieces9 :
    (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.1
    = List.ofFn fun k : Fin 64 => (⟨Rect.unit (s := S64x64) ![0, 63 - k.val] S64x1.size (inbS (63 - k.val) (lt_rev k)),
        sG (tG (mT arg1 harg1 arg3 harg3 arg4 harg4 arg5 harg5 x0 x2 x3 x4 (63 - k.val) (lt_rev k)) 0x3B124925#32)⟩ : View.Piece (Elt F) S64x64 .f32) := by
  sl_kernel_rfl

/-- The second moment's codes. -/
theorem pieces10 :
    (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1
    = List.ofFn fun k : Fin 64 => (⟨Rect.unit (s := S64x8192) ![0, 128 * (63 - k.val)] S64x128.size (inbG (63 - k.val) (lt_rev k)),
        (truncf .fp8e5m2 (cG (vT arg1 harg1 arg3 harg3 arg6 harg6 arg7 harg7 x0 x2 x5 x6 (63 - k.val) (lt_rev k)) (iG (tG (vT arg1 harg1 arg3 harg3 arg6 harg6 arg7 harg7 x0 x2 x5 x6 (63 - k.val) (lt_rev k)) 0x37924925#32)) 0x00000000#32 0x47600000#32) bitsLt_fp8e5m2_f32 : FVec F S64x128 .fp8e5m2)⟩ : View.Piece (Elt F) S64x8192 .fp8e5m2) := by
  sl_kernel_rfl

/-- The second moment's scales. -/
theorem pieces11 :
    (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.2.1
    = List.ofFn fun k : Fin 64 => (⟨Rect.unit (s := S64x64) ![0, 63 - k.val] S64x1.size (inbS (63 - k.val) (lt_rev k)),
        sG (tG (vT arg1 harg1 arg3 harg3 arg6 harg6 arg7 harg7 x0 x2 x5 x6 (63 - k.val) (lt_rev k)) 0x37924925#32)⟩ : View.Piece (Elt F) S64x64 .f32) := by
  sl_kernel_rfl

end Cert.KPieces
-- ==== Proof.Spec.lean ====
/-
  What the optimizer step computes, number by number over the extended reals. A row of 8192 values is 64 groups of 128; a group
  shares one scale. `R` names the reference's way of choosing a scale (logarithm, floor, power of two), `K` the kernel's (the
  exponent found by comparing with 256 powers of two, and the scale built from its bits). `Scale` proves that they agree.
-/
module

public import Idealize.ShloMosaic.Lib.Pointwise

@[expose] public section
noncomputable section
namespace Cert.Spec
open Idealize.ShloMosaic

/-- The number an f32 pattern denotes. -/
abbrev C (w : BitVec 32) : EReal := Ideal.ofBits .f32 w

/-- The new first moment: old code `q`, old scale `s`, gradient `g` (clipped). -/
def mNew (s q g : EReal) : EReal := C 0x3F666666#32 * (q * s) + C 0x3DCCCCCD#32 * g

/-- The new second moment. -/
def vNew (s q g : EReal) : EReal := C 0x3F7FBE77#32 * (q * s) + C 0x3A83126F#32 * (g * g)

/-- The largest magnitude in a group. -/
def amax (x : Fin 128 → EReal) : EReal := Finset.univ.fold max (C 0xFF800000#32) fun l => max (x l) (-(x l))

/-- The clipped code. -/
def code (lo hi : BitVec 32) (x inv : EReal) : EReal := min (C hi) (max (C lo) (x * inv))

/-- The exponent as the reference takes it. -/
def expR (a t : EReal) : EReal :=
  if a = 0 ∨ t = ⊤ then 0 else max (Ideal.liftRound Int.floor (Ideal.div (Ideal.log t) ((Real.log 2 : ℝ) : EReal)) + 1) (C 0xC2FC0000#32)

def scaleR (a t : EReal) : EReal := if C 0x42FE0000#32 < expR a t then ⊤ else Ideal.exp2 (expR a t)

def invR (a t : EReal) : EReal :=
  if C 0x42FE0000#32 < expR a t then ⊥ else if C 0x42FC0000#32 < expR a t then 0 else Ideal.exp2 (0 - expR a t)

/-- The largest `k < 256` such that the number with exponent field `k` is at most `t`. -/
def fieldK (t : EReal) : BitVec 32 :=
  Finset.univ.fold IntOp.maxsi 2147483648#32 fun k : Fin 256 =>
    if t < C (IntOp.shli ArithUnit.vector (BitVec.ofNat 32 k.val) 23#32) then 0#32 else BitVec.ofNat 32 k.val

/-- The exponent as the kernel takes it. -/
def expK (t : EReal) : BitVec 32 :=
  Scalar.select (IntOp.ori (BitVec.ofBool (decide (t = 0))) (IntOp.cmpi .eq (fieldK t) 255#32)) 0#32 (IntOp.subi (fieldK t) 126#32)

def scaleK (t : EReal) : EReal := C (IntOp.shli ArithUnit.vector (IntOp.addi (expK t) 127#32) 23#32)

def invK (t : EReal) : EReal := C (IntOp.shli ArithUnit.vector (IntOp.subi 127#32 (expK t)) 23#32)

/-- The parameter's step in the reference: the moments divided by the bias corrections. -/
def stepR (b1 b2 m v p : EReal) : EReal :=
  C 0xBA83126F#32 * (Ideal.div (Ideal.div m b1) (Ideal.sqrt (Ideal.div v b2) + C 0x322BCC77#32) + C 0x3C23D70A#32 * p)

/-- The parameter's step in the kernel: the moments multiplied by the corrections' inverses. -/
def stepK (k1 k2 m v p : EReal) : EReal :=
  C 0xBA83126F#32 * (Ideal.div (m * k1) (Ideal.sqrt (v * k2) + C 0x322BCC77#32) + C 0x3C23D70A#32 * p)

/-- The group of a column, its place in the group, and back. -/
def grp (k : Fin 8192) : Fin 64 := ⟨k.val / 128, by omega⟩
def lane (k : Fin 8192) : Fin 128 := ⟨k.val % 128, by omega⟩
def col (j : Fin 64) (l : Fin 128) : Fin 8192 := ⟨j.val * 128 + l.val, by omega⟩

theorem col_grp_lane (k : Fin 8192) : col (grp k) (lane k) = k := Fin.ext (by simp only [col, grp, lane]; omega)

/-- The new moments of an array of `n` rows, and the largest magnitude in each group. -/
def mW {n : ℕ} (s : Fin n → Fin 64 → EReal) (q g : Fin n → Fin 8192 → EReal) (r : Fin n) (k : Fin 8192) : EReal := mNew (s r (grp k)) (q r k) (g r k)
def vW {n : ℕ} (s : Fin n → Fin 64 → EReal) (q g : Fin n → Fin 8192 → EReal) (r : Fin n) (k : Fin 8192) : EReal := vNew (s r (grp k)) (q r k) (g r k)
def aW {n : ℕ} (x : Fin n → Fin 8192 → EReal) (r : Fin n) (j : Fin 64) : EReal := amax fun l => x r (col j l)

end Cert.Spec
-- ==== Proof.KElem.lean ====
/-
  One group of the main call, read at an index.
-/
module

public import proofs.«01_k».proof.Proof.KTile
public import proofs.«01_k».proof.Proof.Spec
public import Idealize.ShloMosaic.Lib.Pointwise

@[expose] public section
set_option maxRecDepth 16384
noncomputable section
namespace Cert.KElem
open Idealize.ShloMosaic Cert.KernelIdeal Cert.KernelIdeal.Gen Cert.KTile Cert.Spec

theorem mG_at (j : ℕ) (hj : j < 64) (s0 : EReal) (ms : Vec Ideal S64x64 .f32) (g : Vec Ideal S64x128 .bf16) (mc : Vec Ideal S64x128 .fp8e4m3) (r : Fin 64) (l : Fin 128) :
    mG (F := Ideal) j hj s0 ms g mc (ix2 r l) = mNew (ms (ix2 r ⟨j, hj⟩)) (mc (ix2 r l)) (g (ix2 r l) * s0) := by
  pointwise [mG, gG, k1_pay1]
  rfl

theorem vG_at (j : ℕ) (hj : j < 64) (s0 : EReal) (vs : Vec Ideal S64x64 .f32) (g : Vec Ideal S64x128 .bf16) (vc : Vec Ideal S64x128 .fp8e5m2) (r : Fin 64) (l : Fin 128) :
    vG (F := Ideal) j hj s0 vs g vc (ix2 r l) = vNew (vs (ix2 r ⟨j, hj⟩)) (vc (ix2 r l)) (g (ix2 r l) * s0) := by
  pointwise [vG, gG, k1_pay2]
  rfl

theorem tG_at (x : FVec Ideal S64x128 .f32) (rc : BitVec 32) (r : Fin 64) :
    tG (F := Ideal) x rc (ix2 r 0) = amax (fun l => x (ix2 r l)) * C rc := by
  pointwise [tG]
  rfl

theorem eG_at (t : FVec Ideal S64x1 .f32) (r : Fin 64) : eG (F := Ideal) t (ix2 r 0) = expK (t (ix2 r 0)) := by
  pointwise [eG]
  rfl

theorem sG_at (t : FVec Ideal S64x1 .f32) (r : Fin 64) : sG (F := Ideal) t (ix2 r 0) = scaleK (t (ix2 r 0)) := by
  pointwise [sG]
  rw [eG_at]
  rfl

theorem iG_at (t : FVec Ideal S64x1 .f32) (r : Fin 64) : iG (F := Ideal) t (ix2 r 0) = invK (t (ix2 r 0)) := by
  pointwise [iG]
  rw [eG_at]
  rfl

theorem cG_at (x : FVec Ideal S64x128 .f32) (t : FVec Ideal S64x1 .f32) (lo hi : BitVec 32) (r : Fin 64) (l : Fin 128) :
    cG (F := Ideal) x t lo hi (ix2 r l) = code lo hi (x (ix2 r l)) (t (ix2 r 0)) := by
  pointwise [cG]
  rfl

theorem dG_at (b1 b2 : EReal) (m v p : FVec Ideal S64x128 .f32) (r : Fin 64) (l : Fin 128) :
    dG (F := Ideal) b1 b2 m v p (ix2 r l) = stepK b1 b2 (m (ix2 r l)) (v (ix2 r l)) (p (ix2 r l)) := by
  pointwise [dG]
  rfl

end Cert.KElem
-- ==== Proof.Host.lean ====
/-
  The scalars computed outside the calls: the factor that clips the gradient to norm one, and the bias corrections.
-/
module

public import proofs.«01_k».proof.Proof.Spec

@[expose] public section
noncomputable section
namespace Cert.Host
open Idealize.ShloMosaic Cert.Spec

/-- The clipping factor for a gradient whose squares sum to `S`. -/
def clip (S : EReal) : EReal := min (C 0x3F800000#32) (Ideal.div (C 0x3F800000#32) (Ideal.sqrt S + C 0x358637BD#32))

/-- The bias correction for the decay `w` at step `n`. -/
def bias (w n : BitVec 32) : EReal := C 0x3F800000#32 - Ideal.pow (C w) ((n.toInt : ℝ) : EReal)

/-- The step number, out of its array of no axes. -/
abbrev stepOf (x : (⟨0, ![]⟩ : Shape).Idx → BitVec 32) : BitVec 32 := x ix0

/-- The sum of the squares of an array. -/
def sumSq (x : (⟨2, ![4096, 8192]⟩ : Shape).Idx → EReal) : EReal := ∑ r : Fin 4096, ∑ q : Fin 8192, x (ix2 r q) * x (ix2 r q)

/-- The gradient clipped to norm one. -/
abbrev clipped (x : (⟨2, ![4096, 8192]⟩ : Shape).Idx → EReal) (r : Fin 4096) (k : Fin 8192) : EReal := x (ix2 r k) * clip (sumSq x)

end Cert.Host
-- ==== Proof.Result.lean ====
/-
  The five results as functions of the seven arguments.
-/
module

public import proofs.«01_k».proof.Proof.Host

@[expose] public section
noncomputable section
namespace Cert.Spec
open Idealize.ShloMosaic Cert.Host

/-- An array as a function of row and column. -/
abbrev f2 {n m : ℕ} (x : (⟨2, ![n, m]⟩ : Shape).Idx → EReal) (r : Fin n) (k : Fin m) : EReal := x (ix2 r k)

/-- The new moments, before they are coded: from the gradient `G`, the old codes `Q` and the old scales `S`. -/
def newM (G Q : (⟨2, ![4096, 8192]⟩ : Shape).Idx → EReal) (S : (⟨2, ![4096, 64]⟩ : Shape).Idx → EReal) : Fin 4096 → Fin 8192 → EReal :=
  mW (f2 S) (f2 Q) (clipped G)
def newV (G Q : (⟨2, ![4096, 8192]⟩ : Shape).Idx → EReal) (S : (⟨2, ![4096, 64]⟩ : Shape).Idx → EReal) : Fin 4096 → Fin 8192 → EReal :=
  vW (f2 S) (f2 Q) (clipped G)

/-- A moment's codes and its scales. -/
def codes (lo hi rc : BitVec 32) (x : Fin 4096 → Fin 8192 → EReal) : (⟨2, ![4096, 8192]⟩ : Shape).Idx → EReal := fun y =>
  code lo hi (x (y 0) (y 1)) (invR (aW x (y 0) (grp (y 1))) (aW x (y 0) (grp (y 1)) * C rc))
def scalesOf (rc : BitVec 32) (x : Fin 4096 → Fin 8192 → EReal) : (⟨2, ![4096, 64]⟩ : Shape).Idx → EReal := fun y =>
  scaleR (aW x (y 0) (y 1)) (aW x (y 0) (y 1) * C rc)

/-- The parameters' steps. -/
def resStep (P G Q : (⟨2, ![4096, 8192]⟩ : Shape).Idx → EReal) (S : (⟨2, ![4096, 64]⟩ : Shape).Idx → EReal)
    (Q' : (⟨2, ![4096, 8192]⟩ : Shape).Idx → EReal) (S' : (⟨2, ![4096, 64]⟩ : Shape).Idx → EReal) (n : BitVec 32) : (⟨2, ![4096, 8192]⟩ : Shape).Idx → EReal := fun y =>
  stepR (bias 0x3F666666#32 n) (bias 0x3F7FBE77#32 n) (newM G Q S (y 0) (y 1)) (newV G Q' S' (y 0) (y 1)) (P y)

/-- Equal arguments give equal results. -/
theorem newM_congr {G G' Q Q' : (⟨2, ![4096, 8192]⟩ : Shape).Idx → EReal} {S S' : (⟨2, ![4096, 64]⟩ : Shape).Idx → EReal} (hG : G = G') (hQ : Q = Q') (hS : S = S') : newM G Q S = newM G' Q' S' := by
  subst hG hQ hS; rfl
theorem newV_congr {G G' Q Q' : (⟨2, ![4096, 8192]⟩ : Shape).Idx → EReal} {S S' : (⟨2, ![4096, 64]⟩ : Shape).Idx → EReal} (hG : G = G') (hQ : Q = Q') (hS : S = S') : newV G Q S = newV G' Q' S' := by
  subst hG hQ hS; rfl
theorem resStep_congr {P P' G G' Q Q' U U' : (⟨2, ![4096, 8192]⟩ : Shape).Idx → EReal} {S S' T T' : (⟨2, ![4096, 64]⟩ : Shape).Idx → EReal} {n n' : (⟨0, ![]⟩ : Shape).Idx → BitVec 32}
    (hP : P = P') (hG : G = G') (hQ : Q = Q') (hS : S = S') (hU : U = U') (hT : T = T') (hn : n = n') :
    resStep P G Q S U T (stepOf n) = resStep P' G' Q' S' U' T' (stepOf n') := by
  subst hP hG hQ hS hU hT hn; rfl

end Cert.Spec
-- ==== Proof.KBlock.lean ====
/-
  What one grid point of the main call leaves in its five output blocks, number by number.
-/
module

public import proofs.«01_k».proof.Proof.KPieces
public import proofs.«01_k».proof.Proof.KElem
public import proofs.«01_k».proof.Proof.Result
public import Idealize.ShloMosaic.Lib.Pipeline.ValueKit

@[expose] public section
set_option maxRecDepth 16384
noncomputable section
namespace Cert.KBlock
open Idealize.ShloMosaic Idealize.ShloMosaic.TcCoe Idealize.SL.Sem Cert.KernelIdeal Cert.KernelIdeal.Gen Cert.KTile Cert.KPieces Cert.KElem Cert.Spec

/-- 64 stores of 128 columns each, read at a column. -/
theorem canon_cols {e : EltTy} (P : (j : ℕ) → j < 64 → Vec Ideal S64x128 e) (r : Fin 64) (k : Fin 8192) :
    View.canon (List.ofFn fun n : Fin 64 => (⟨Rect.unit (s := S64x8192) ![0, 128 * (63 - n.val)] S64x128.size (inbG (63 - n.val) (lt_rev n)),
      P (63 - n.val) (lt_rev n)⟩ : View.Piece (Elt Ideal) S64x8192 e)) (ix2 r k) = P (grp k).val (grp k).isLt (ix2 r (lane k)) := by
  have hk := k.isLt
  refine View.canon_ofFn_unit_eq_of_forall (S := S64x8192) (fun n : Fin 64 => ![0, 128 * (63 - n.val)]) S64x128.size (fun n => inbG (63 - n.val) (lt_rev n))
    (fun n => P (63 - n.val) (lt_rev n)) _ _ ⟨⟨63 - k.val / 128, by omega⟩, fun a => ?_⟩ fun n x hx => ?_
  · match a with
    | ⟨0, _⟩ => exact ⟨Nat.zero_le _, lt_of_lt_of_eq r.isLt (by rfl)⟩
    | ⟨1, _⟩ =>
      show 128 * (63 - (63 - k.val / 128)) ≤ k.val ∧ k.val < 128 * (63 - (63 - k.val / 128)) + 128
      omega
  · have h0 : r.val = 0 + (x 0 : ℕ) := hx 0
    have h1 : k.val = 128 * (63 - n.val) + (x 1 : ℕ) := hx 1
    have hx1 : (x 1 : ℕ) < 128 := (x 1).isLt
    have hP : ∀ (j j' : ℕ) (h : j < 64) (h' : j' < 64), j = j' → P j h = P j' h' := by rintro j _ h h' rfl; rfl
    rw [hP (63 - n.val) (grp k).val (lt_rev n) (grp k).isLt (by show _ = k.val / 128; omega)]
    congr 1
    funext a
    apply Fin.ext
    match a with
    | ⟨0, _⟩ => show (x 0 : ℕ) = r.val; omega
    | ⟨1, _⟩ => show (x 1 : ℕ) = k.val % 128; omega

/-- 64 stores of one column each, read at a column. -/
theorem canon_scales (P : (j : ℕ) → j < 64 → Vec Ideal S64x1 .f32) (r : Fin 64) (k : Fin 64) :
    View.canon (List.ofFn fun n : Fin 64 => (⟨Rect.unit (s := S64x64) ![0, 63 - n.val] S64x1.size (inbS (63 - n.val) (lt_rev n)),
      P (63 - n.val) (lt_rev n)⟩ : View.Piece (Elt Ideal) S64x64 .f32)) (ix2 r k) = P k.val k.isLt (ix2 r 0) := by
  have hk := k.isLt
  refine View.canon_ofFn_unit_eq_of_forall (S := S64x64) (fun n : Fin 64 => ![0, 63 - n.val]) S64x1.size (fun n => inbS (63 - n.val) (lt_rev n))
    (fun n => P (63 - n.val) (lt_rev n)) _ _ ⟨⟨63 - k.val, by omega⟩, fun a => ?_⟩ fun n x hx => ?_
  · match a with
    | ⟨0, _⟩ => exact ⟨Nat.zero_le _, lt_of_lt_of_eq r.isLt (by rfl)⟩
    | ⟨1, _⟩ =>
      show 63 - (63 - k.val) ≤ k.val ∧ k.val < 63 - (63 - k.val) + 1
      omega
  · have h0 : r.val = 0 + (x 0 : ℕ) := hx 0
    have h1 : k.val = 63 - n.val + (x 1 : ℕ) := hx 1
    have hx1 : (x 1 : ℕ) < 1 := (x 1).isLt
    have hP : ∀ (j j' : ℕ) (h : j < 64) (h' : j' < 64), j = j' → P j h = P j' h' := by rintro j _ h h' rfl; rfl
    rw [hP (63 - n.val) k.val (lt_rev n) k.isLt (by omega)]
    congr 1
    funext a
    apply Fin.ext
    match a with
    | ⟨0, _⟩ => show (x 0 : ℕ) = r.val; omega
    | ⟨1, _⟩ => show (x 1 : ℕ) = 0; omega

variable (c : Dev nD) (i : grid1.Coords)
  (arg1 : Memref sig .tc .smem S3 .f32) (harg1 : arg1.IsWhole) (arg2 : Memref sig .tc .vmem S64x8192 .f32) (harg2 : arg2.IsWhole)
  (arg3 : Memref sig .tc .vmem S64x8192 .bf16) (harg3 : arg3.IsWhole) (arg4 : Memref sig .tc .vmem S64x8192 .fp8e4m3) (harg4 : arg4.IsWhole)
  (arg5 : Memref sig .tc .vmem S64x64 .f32) (harg5 : arg5.IsWhole) (arg6 : Memref sig .tc .vmem S64x8192 .fp8e5m2) (harg6 : arg6.IsWhole)
  (arg7 : Memref sig .tc .vmem S64x64 .f32) (harg7 : arg7.IsWhole) (arg8 : Memref sig .tc .vmem S64x8192 .f32) (harg8 : arg8.IsWhole)
  (arg9 : Memref sig .tc .vmem S64x8192 .fp8e4m3) (harg9 : arg9.IsWhole) (arg10 : Memref sig .tc .vmem S64x64 .f32) (harg10 : arg10.IsWhole)
  (arg11 : Memref sig .tc .vmem S64x8192 .fp8e5m2) (harg11 : arg11.IsWhole) (arg12 : Memref sig .tc .vmem S64x64 .f32) (harg12 : arg12.IsWhole)
  (x0 : Vec Ideal S3 .f32) (x1 : Vec Ideal S64x8192 .f32) (x2 : Vec Ideal S64x8192 .bf16) (x3 : Vec Ideal S64x8192 .fp8e4m3) (x4 : Vec Ideal S64x64 .f32)
  (x5 : Vec Ideal S64x8192 .fp8e5m2) (x6 : Vec Ideal S64x64 .f32)

/-! ## The loads -/

theorem ldSc0_eq : ldSc0 arg1 harg1 x0 = x0 (ix1 0) := by
  unfold ldSc0
  rw [View.readAt_eq_ld, harg1.read_unread]
  refine View.ld_unit_apply_of x0 _ _ _ _ _ fun a => ?_
  match a with | ⟨0, _⟩ => rfl
theorem ldSc1_eq : ldSc1 arg1 harg1 x0 = x0 (ix1 1) := by
  unfold ldSc1
  rw [View.readAt_eq_ld, harg1.read_unread]
  refine View.ld_unit_apply_of x0 _ _ _ _ _ fun a => ?_
  match a with | ⟨0, _⟩ => rfl
theorem ldSc2_eq : ldSc2 arg1 harg1 x0 = x0 (ix1 2) := by
  unfold ldSc2
  rw [View.readAt_eq_ld, harg1.read_unread]
  refine View.ld_unit_apply_of x0 _ _ _ _ _ fun a => ?_
  match a with | ⟨0, _⟩ => rfl

theorem ldS_eq (arg : Memref sig .tc .vmem S64x64 .f32) (harg : arg.IsWhole) (x : Vec Ideal S64x64 .f32) : ldS arg harg x = x := by
  unfold ldS
  rw [View.readAt_eq_ld, harg.read_unread]
  exact View.ld_unit_zero (S := S64x64) (funext fun a => by fin_cases a <;> rfl) _ _

theorem ldG_at {e : EltTy} (j : ℕ) (hj : j < 64) (arg : Memref sig .tc .vmem S64x8192 e) (harg : arg.IsWhole) (x : Vec Ideal S64x8192 e)
    (r : Fin 64) (l : Fin 128) : ldG j hj arg harg x (ix2 r l) = x (ix2 r (col ⟨j, hj⟩ l)) := by
  unfold ldG
  rw [View.readAt_eq_ld, harg.read_unread]
  refine View.ld_unit_apply_of x _ _ _ _ _ fun a => ?_
  match a with
  | ⟨0, _⟩ => show r.val = 0 + r.val; omega
  | ⟨1, _⟩ => show j * 128 + l.val = 128 * j + l.val; omega

theorem grp_col (j : Fin 64) (l : Fin 128) : grp (col j l) = j := Fin.ext (by show (j.val * 128 + l.val) / 128 = j.val; omega)

/-! ## The moments of the block -/

/-- The block's gradient, clipped. -/
abbrev gB (x0 : Vec Ideal S3 .f32) (x2 : Vec Ideal S64x8192 .bf16) (r : Fin 64) (k : Fin 8192) : EReal := (x2 (ix2 r k) : EReal) * x0 (ix1 0)

abbrev mB (x0 : Vec Ideal S3 .f32) (x2 : Vec Ideal S64x8192 .bf16) (x3 : Vec Ideal S64x8192 .fp8e4m3) (x4 : Vec Ideal S64x64 .f32) : Fin 64 → Fin 8192 → EReal :=
  mW (f2 x4) (f2 x3) (gB x0 x2)
abbrev vB (x0 : Vec Ideal S3 .f32) (x2 : Vec Ideal S64x8192 .bf16) (x5 : Vec Ideal S64x8192 .fp8e5m2) (x6 : Vec Ideal S64x64 .f32) : Fin 64 → Fin 8192 → EReal :=
  vW (f2 x6) (f2 x5) (gB x0 x2)

theorem mT_at (j : ℕ) (hj : j < 64) (r : Fin 64) (l : Fin 128) :
    mT arg1 harg1 arg3 harg3 arg4 harg4 arg5 harg5 x0 x2 x3 x4 j hj (ix2 r l) = mB x0 x2 x3 x4 r (col ⟨j, hj⟩ l) := by
  unfold mT
  rw [mG_at, ldSc0_eq, ldS_eq, ldG_at, ldG_at]
  unfold mB mW
  rw [grp_col]

theorem vT_at (j : ℕ) (hj : j < 64) (r : Fin 64) (l : Fin 128) :
    vT arg1 harg1 arg3 harg3 arg6 harg6 arg7 harg7 x0 x2 x5 x6 j hj (ix2 r l) = vB x0 x2 x5 x6 r (col ⟨j, hj⟩ l) := by
  unfold vT
  rw [vG_at, ldSc0_eq, ldS_eq, ldG_at, ldG_at]
  unfold vB vW
  rw [grp_col]

theorem tM_at (j : ℕ) (hj : j < 64) (rc : BitVec 32) (r : Fin 64) :
    tG (mT arg1 harg1 arg3 harg3 arg4 harg4 arg5 harg5 x0 x2 x3 x4 j hj) rc (ix2 r 0) = (aW (mB x0 x2 x3 x4) r ⟨j, hj⟩ * C rc : EReal) := by
  rw [tG_at]
  unfold aW
  simp only [mT_at]

theorem tV_at (j : ℕ) (hj : j < 64) (rc : BitVec 32) (r : Fin 64) :
    tG (vT arg1 harg1 arg3 harg3 arg6 harg6 arg7 harg7 x0 x2 x5 x6 j hj) rc (ix2 r 0) = (aW (vB x0 x2 x5 x6) r ⟨j, hj⟩ * C rc : EReal) := by
  rw [tG_at]
  unfold aW
  simp only [vT_at]

/-! ## The five blocks -/

theorem out7_at (r : Fin 64) (k : Fin 8192) : out1_A_7 c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r k)
    = stepK (x0 (ix1 1)) (x0 (ix1 2)) (mB x0 x2 x3 x4 r k) (vB x0 x2 x5 x6 r k) (x1 (ix2 r k)) := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 arg11 harg11 arg12 harg12 x0 x1 x2 x3 x4 x5 x6), pieces7]
  refine (canon_cols (e := .f32) (fun j hj => dG (ldSc1 arg1 harg1 x0) (ldSc2 arg1 harg1 x0) (mT arg1 harg1 arg3 harg3 arg4 harg4 arg5 harg5 x0 x2 x3 x4 j hj)
    (vT arg1 harg1 arg3 harg3 arg6 harg6 arg7 harg7 x0 x2 x5 x6 j hj) (ldG j hj arg2 harg2 x1)) r k).trans ?_
  rw [dG_at, ldSc1_eq, ldSc2_eq, mT_at, vT_at, ldG_at, Fin.eta, col_grp_lane]

theorem out8_at (r : Fin 64) (k : Fin 8192) : out1_A_8 c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r k)
    = code 0xC3E00000#32 0x43E00000#32 (mB x0 x2 x3 x4 r k) (invK (aW (mB x0 x2 x3 x4) r (grp k) * C 0x3B124925#32)) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 arg12 harg12 x0 x1 x2 x3 x4 x5 x6), pieces8]
  refine (canon_cols (e := .fp8e4m3) (fun j hj => (truncf .fp8e4m3 (cG (mT arg1 harg1 arg3 harg3 arg4 harg4 arg5 harg5 x0 x2 x3 x4 j hj)
    (iG (tG (mT arg1 harg1 arg3 harg3 arg4 harg4 arg5 harg5 x0 x2 x3 x4 j hj) 0x3B124925#32)) 0xC3E00000#32 0x43E00000#32) bitsLt_fp8e4m3_f32 : FVec Ideal S64x128 .fp8e4m3)) r k).trans ?_
  refine (cG_at _ _ _ _ r (lane k)).trans ?_
  rw [iG_at, tM_at, mT_at, Fin.eta, col_grp_lane]

theorem out9_at (r : Fin 64) (j : Fin 64) : out1_A_9 c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r j) = scaleK (aW (mB x0 x2 x3 x4) r j * C 0x3B124925#32) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 x0 x1 x2 x3 x4 x5 x6), pieces9]
  refine (canon_scales (fun j hj => sG (tG (mT arg1 harg1 arg3 harg3 arg4 harg4 arg5 harg5 x0 x2 x3 x4 j hj) 0x3B124925#32)) r j).trans ?_
  rw [sG_at, tM_at]

theorem out10_at (r : Fin 64) (k : Fin 8192) : out1_A_10 c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r k)
    = code 0x00000000#32 0x47600000#32 (vB x0 x2 x5 x6 r k) (invK (aW (vB x0 x2 x5 x6) r (grp k) * C 0x37924925#32)) := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 x0 x1 x2 x3 x4 x5 x6), pieces10]
  refine (canon_cols (e := .fp8e5m2) (fun j hj => (truncf .fp8e5m2 (cG (vT arg1 harg1 arg3 harg3 arg6 harg6 arg7 harg7 x0 x2 x5 x6 j hj)
    (iG (tG (vT arg1 harg1 arg3 harg3 arg6 harg6 arg7 harg7 x0 x2 x5 x6 j hj) 0x37924925#32)) 0x00000000#32 0x47600000#32) bitsLt_fp8e5m2_f32 : FVec Ideal S64x128 .fp8e5m2)) r k).trans ?_
  refine (cG_at _ _ _ _ r (lane k)).trans ?_
  rw [iG_at, tV_at, vT_at, Fin.eta, col_grp_lane]

theorem out11_at (r : Fin 64) (j : Fin 64) : out1_A_11 c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r j) = scaleK (aW (vB x0 x2 x5 x6) r j * C 0x37924925#32) := by
  unfold out1_A_11
  rw [View.read_writes_eq_canon _ _ _ (cover1_A_11 c i arg1 harg1 arg2 harg2 arg3 harg3 arg4 harg4 arg5 harg5 arg6 harg6 arg7 harg7 arg8 harg8 arg9 harg9 arg10 harg10 arg11 harg11 arg12 harg12 x0 x1 x2 x3 x4 x5 x6), pieces11]
  refine (canon_scales (fun j hj => sG (tG (vT arg1 harg1 arg3 harg3 arg6 harg6 arg7 harg7 x0 x2 x5 x6 j hj) 0x37924925#32)) r j).trans ?_
  rw [sG_at, tV_at]

end Cert.KBlock
-- ==== Proof.KArr.lean ====
/-
  The main call: what each of its five result arrays holds, number by number, from the arrays it is given.
-/
module

public import proofs.«01_k».proof.Proof.KBlock

@[expose] public section
set_option maxRecDepth 16384
noncomputable section
namespace Cert.KArr
open Idealize.ShloMosaic Idealize.ShloMosaic.TcCoe Idealize.SL.Sem Cert.KernelIdeal Cert.KernelIdeal.Gen Cert.KBlock Cert.Spec
open Idealize.ShloMosaic.Pipeline (Dat)

variable (V : (c : Dev nD) → (b : Ref sig .tc) → Buf (Elt Ideal) ((c : Thread nD τ).loc b)) (c : Dev nD)

/-- Row `r` of point `t`'s block is this row of the array. -/
def row (t : Fin cfg1.N) (r : Fin 64) : Fin 4096 := ⟨64 * t.val + r.val, by have := t.isLt; have : cfg1.N = 64 := N_1; omega⟩

theorem ix_0 : ∀ t : Fin cfg1.N, win1_0.index t = ![0] := by decide +kernel
theorem ix_1 : ∀ t : Fin cfg1.N, win1_1.index t = ![t.val, 0] := by decide +kernel
theorem ix_2 : ∀ t : Fin cfg1.N, win1_2.index t = ![t.val, 0] := by decide +kernel
theorem ix_3 : ∀ t : Fin cfg1.N, win1_3.index t = ![t.val, 0] := by decide +kernel
theorem ix_4 : ∀ t : Fin cfg1.N, win1_4.index t = ![t.val, 0] := by decide +kernel
theorem ix_5 : ∀ t : Fin cfg1.N, win1_5.index t = ![t.val, 0] := by decide +kernel
theorem ix_6 : ∀ t : Fin cfg1.N, win1_6.index t = ![t.val, 0] := by decide +kernel
theorem ix_7 : ∀ t : Fin cfg1.N, win1_7.index t = ![t.val, 0] := by decide +kernel
theorem ix_8 : ∀ t : Fin cfg1.N, win1_8.index t = ![t.val, 0] := by decide +kernel
theorem ix_9 : ∀ t : Fin cfg1.N, win1_9.index t = ![t.val, 0] := by decide +kernel
theorem ix_10 : ∀ t : Fin cfg1.N, win1_10.index t = ![t.val, 0] := by decide +kernel
theorem ix_11 : ∀ t : Fin cfg1.N, win1_11.index t = ![t.val, 0] := by decide +kernel

theorem b0 (t : Fin cfg1.N) (a : Fin 3) : iblk1 V c 0 t (ix1 a) = V c main_v16 (ix1 a) := by blk_ext [iblk1, ix_0 t]
theorem b1 (t : Fin cfg1.N) (r : Fin 64) (k : Fin 8192) : iblk1 V c 1 t (ix2 r k) = V c main_arg0 (ix2 (row t r) k) := by unfold row; blk_ext [iblk1, ix_1 t]
theorem b2 (t : Fin cfg1.N) (r : Fin 64) (k : Fin 8192) : iblk1 V c 2 t (ix2 r k) = V c main_arg1 (ix2 (row t r) k) := by unfold row; blk_ext [iblk1, ix_2 t]
theorem b3 (t : Fin cfg1.N) (r : Fin 64) (k : Fin 8192) : iblk1 V c 3 t (ix2 r k) = V c main_arg2 (ix2 (row t r) k) := by unfold row; blk_ext [iblk1, ix_3 t]
theorem b4 (t : Fin cfg1.N) (r : Fin 64) (k : Fin 64) : iblk1 V c 4 t (ix2 r k) = V c main_arg3 (ix2 (row t r) k) := by unfold row; blk_ext [iblk1, ix_4 t]
theorem b5 (t : Fin cfg1.N) (r : Fin 64) (k : Fin 8192) : iblk1 V c 5 t (ix2 r k) = V c main_arg4 (ix2 (row t r) k) := by unfold row; blk_ext [iblk1, ix_5 t]
theorem b6 (t : Fin cfg1.N) (r : Fin 64) (k : Fin 64) : iblk1 V c 6 t (ix2 r k) = V c main_arg5 (ix2 (row t r) k) := by unfold row; blk_ext [iblk1, ix_6 t]

/-! ## The moments of the whole arrays -/

/-- The gradient, clipped. -/
abbrev gA : Fin 4096 → Fin 8192 → EReal := fun r k => f2 (V c main_arg1) r k * (V c main_v16 : S3.Idx → EReal) (ix1 0)
abbrev mA : Fin 4096 → Fin 8192 → EReal := mW (f2 (V c main_arg3)) (f2 (V c main_arg2)) (gA V c)
abbrev vA : Fin 4096 → Fin 8192 → EReal := vW (f2 (V c main_arg5)) (f2 (V c main_arg4)) (gA V c)

theorem mB_eq (t : Fin cfg1.N) (r : Fin 64) : mB (iblk1 V c 0 t) (iblk1 V c 2 t) (iblk1 V c 3 t) (iblk1 V c 4 t) r = mA V c (row t r) := by
  funext k
  unfold mB mA mW gB gA f2
  rw [b0, b2, b3, b4]
theorem vB_eq (t : Fin cfg1.N) (r : Fin 64) : vB (iblk1 V c 0 t) (iblk1 V c 2 t) (iblk1 V c 5 t) (iblk1 V c 6 t) r = vA V c (row t r) := by
  funext k
  unfold vB vA vW gB gA f2
  rw [b0, b2, b5, b6]
theorem aM_eq (t : Fin cfg1.N) (r : Fin 64) (j : Fin 64) :
    aW (mB (iblk1 V c 0 t) (iblk1 V c 2 t) (iblk1 V c 3 t) (iblk1 V c 4 t)) r j = aW (mA V c) (row t r) j := by
  unfold aW; rw [mB_eq]
theorem aV_eq (t : Fin cfg1.N) (r : Fin 64) (j : Fin 64) :
    aW (vB (iblk1 V c 0 t) (iblk1 V c 2 t) (iblk1 V c 5 t) (iblk1 V c 6 t)) r j = aW (vA V c) (row t r) j := by
  unfold aW; rw [vB_eq]

/-! ## The five arrays -/

theorem outs7 (t : Fin cfg1.N) (r : Fin 64) (k : Fin 8192) : (outsAt1 V c t).1 (ix2 r k)
    = stepK (V c main_v16 (ix1 1)) (V c main_v16 (ix1 2)) (mA V c (row t r) k) (vA V c (row t r) k) (V c main_arg0 (ix2 (row t r) k)) := by
  unfold outsAt1
  dsimp only
  rw [out7_at, b0, b0, mB_eq, vB_eq, b1]

theorem emb7 (t : Fin cfg1.N) (r : Fin 64) (k : Fin 8192) : (win1_7.blk t).view.emb (ix2 r k) = (ix2 (row t r) k : S4096x8192.Idx) := by
  unfold row; blk_ext [ix_7 t]

/-- The parameters' steps. -/
theorem arr7 : (dat1 V c).arrAt 7 cfg1.N = fun y : S4096x8192.Idx =>
    (stepK (V c main_v16 (ix1 1)) (V c main_v16 (ix1 2)) (mA V c (y 0) (y 1)) (vA V c (y 0) (y 1)) (V c main_arg0 y) : EReal) := by
  refine (dat1 V c).arrAt_eq_of_covers 7 _ (by decide +kernel) fun t hf y => ?_
  blk_simp
  rw [after1_7]
  obtain ⟨r, k, rfl⟩ : ∃ (r : Fin 64) (k : Fin 8192), y = ix2 r k := ⟨y 0, y 1, eq_ix2 y⟩
  rw [emb7]
  exact outs7 V c t r k

theorem outs8 (t : Fin cfg1.N) (r : Fin 64) (k : Fin 8192) : (outsAt1 V c t).2.1 (ix2 r k)
    = code 0xC3E00000#32 0x43E00000#32 (mA V c (row t r) k) (invK (aW (mA V c) (row t r) (grp k) * C 0x3B124925#32)) := by
  unfold outsAt1
  dsimp only
  rw [out8_at, mB_eq, aM_eq]

theorem emb8 (t : Fin cfg1.N) (r : Fin 64) (k : Fin 8192) : (win1_8.blk t).view.emb (ix2 r k) = (ix2 (row t r) k : S4096x8192.Idx) := by
  unfold row; blk_ext [ix_8 t]

/-- The first moment's codes. -/
theorem arr8 : (dat1 V c).arrAt 8 cfg1.N = fun y : S4096x8192.Idx =>
    (code 0xC3E00000#32 0x43E00000#32 (mA V c (y 0) (y 1)) (invK (aW (mA V c) (y 0) (grp (y 1)) * C 0x3B124925#32)) : EReal) := by
  refine (dat1 V c).arrAt_eq_of_covers 8 _ (by decide +kernel) fun t hf y => ?_
  blk_simp
  rw [after1_8]
  obtain ⟨r, k, rfl⟩ : ∃ (r : Fin 64) (k : Fin 8192), y = ix2 r k := ⟨y 0, y 1, eq_ix2 y⟩
  rw [emb8]
  exact outs8 V c t r k

theorem outs9 (t : Fin cfg1.N) (r : Fin 64) (k : Fin 64) : (outsAt1 V c t).2.2.1 (ix2 r k)
    = scaleK (aW (mA V c) (row t r) k * C 0x3B124925#32) := by
  unfold outsAt1
  dsimp only
  rw [out9_at, aM_eq]

theorem emb9 (t : Fin cfg1.N) (r : Fin 64) (k : Fin 64) : (win1_9.blk t).view.emb (ix2 r k) = (ix2 (row t r) k : S4096x64.Idx) := by
  unfold row; blk_ext [ix_9 t]

/-- The first moment's scales. -/
theorem arr9 : (dat1 V c).arrAt 9 cfg1.N = fun y : S4096x64.Idx =>
    (scaleK (aW (mA V c) (y 0) (y 1) * C 0x3B124925#32) : EReal) := by
  refine (dat1 V c).arrAt_eq_of_covers 9 _ (by decide +kernel) fun t hf y => ?_
  blk_simp
  rw [after1_9]
  obtain ⟨r, k, rfl⟩ : ∃ (r : Fin 64) (k : Fin 64), y = ix2 r k := ⟨y 0, y 1, eq_ix2 y⟩
  rw [emb9]
  exact outs9 V c t r k

theorem outs10 (t : Fin cfg1.N) (r : Fin 64) (k : Fin 8192) : (outsAt1 V c t).2.2.2.1 (ix2 r k)
    = code 0x00000000#32 0x47600000#32 (vA V c (row t r) k) (invK (aW (vA V c) (row t r) (grp k) * C 0x37924925#32)) := by
  unfold outsAt1
  dsimp only
  rw [out10_at, vB_eq, aV_eq]

theorem emb10 (t : Fin cfg1.N) (r : Fin 64) (k : Fin 8192) : (win1_10.blk t).view.emb (ix2 r k) = (ix2 (row t r) k : S4096x8192.Idx) := by
  unfold row; blk_ext [ix_10 t]

/-- The second moment's codes. -/
theorem arr10 : (dat1 V c).arrAt 10 cfg1.N = fun y : S4096x8192.Idx =>
    (code 0x00000000#32 0x47600000#32 (vA V c (y 0) (y 1)) (invK (aW (vA V c) (y 0) (grp (y 1)) * C 0x37924925#32)) : EReal) := by
  refine (dat1 V c).arrAt_eq_of_covers 10 _ (by decide +kernel) fun t hf y => ?_
  blk_simp
  rw [after1_10]
  obtain ⟨r, k, rfl⟩ : ∃ (r : Fin 64) (k : Fin 8192), y = ix2 r k := ⟨y 0, y 1, eq_ix2 y⟩
  rw [emb10]
  exact outs10 V c t r k

theorem outs11 (t : Fin cfg1.N) (r : Fin 64) (k : Fin 64) : (outsAt1 V c t).2.2.2.2 (ix2 r k)
    = scaleK (aW (vA V c) (row t r) k * C 0x37924925#32) := by
  unfold outsAt1
  dsimp only
  rw [out11_at, aV_eq]

theorem emb11 (t : Fin cfg1.N) (r : Fin 64) (k : Fin 64) : (win1_11.blk t).view.emb (ix2 r k) = (ix2 (row t r) k : S4096x64.Idx) := by
  unfold row; blk_ext [ix_11 t]

/-- The second moment's scales. -/
theorem arr11 : (dat1 V c).arrAt 11 cfg1.N = fun y : S4096x64.Idx =>
    (scaleK (aW (vA V c) (y 0) (y 1) * C 0x37924925#32) : EReal) := by
  refine (dat1 V c).arrAt_eq_of_covers 11 _ (by decide +kernel) fun t hf y => ?_
  blk_simp
  rw [after1_11]
  obtain ⟨r, k, rfl⟩ : ∃ (r : Fin 64) (k : Fin 64), y = ix2 r k := ⟨y 0, y 1, eq_ix2 y⟩
  rw [emb11]
  exact outs11 V c t r k

end Cert.KArr
-- ==== Proof.KTrip.lean ====
/-
  The first call, trip by trip: what one trip of the row loop adds to the running block, as one fold over the 64 column chunks.
-/
module

public import proofs.«01_k».proof.Proof.Gen.KernelIdeal.Frame

@[expose] public section
set_option maxRecDepth 65536
noncomputable section
namespace Cert.KTrip
open Idealize.ShloMosaic Idealize.ShloMosaic.TcCoe Idealize.SL.Sem Cert.KernelIdeal Cert.KernelIdeal.Gen

variable {F : FTy → Type} [FloatOps F]

theorem inbC (n j : ℕ) (hn : n + 16 ≤ 256) (hj : j < 64) : ∀ a, (![n, 128 * j] : Fin 2 → ℕ) a + S16x128.size a ≤ S256x8192.size a := by
  intro a
  match a with
  | ⟨0, _⟩ => show n + 16 ≤ 256; omega
  | ⟨1, _⟩ => show 128 * j + 128 ≤ 8192; omega

/-- The rows from `n` and the columns of chunk `j`, as one step loads them. -/
def chunk (arg1 : Memref sig .tc .vmem S256x8192 .bf16) (X : BufTy.Contents (Elt F) arg1.view.ty) (n : ℕ) (hn : n + 16 ≤ 256) (j : Fin 64) :
    Vec F S16x128 .bf16 :=
  View.readAt (Elt F) arg1.view (Rect.unit (s := S256x8192) ![n, 128 * j.val] S16x128.size (inbC n j.val hn j.isLt)).toLoadRect X

/-- One step: the chunk's squares are added. -/
def step (a : FVec F S16x128 .f32) (g : Vec F S16x128 .bf16) : FVec F S16x128 .f32 :=
  addf a (mulf (extf .f32 g bitsLt_bf16_f32) (extf .f32 g bitsLt_bf16_f32))

theorem row_eq : ∀ k : Fin k0_t1_loop.trips, k0_off1 k 0 = 16 * k.val := by decide +kernel
theorem row_lt : ∀ k : Fin k0_t1_loop.trips, k0_off1 k 0 + 16 ≤ 256 := by decide +kernel

theorem trip_word (𝒱 : Variants) (c : Dev nD) (bd : Option 𝒱.V) (i : grid0.Coords) (arg1 : Memref sig .tc .vmem S256x8192 .bf16) (harg1 : arg1.IsWhole) (arg2 : Memref sig .tc .vmem S16x128 .f32) (harg2 : arg2.IsWhole) (X : BufTy.Contents (Elt F) arg1.view.ty) (k : Fin k0_t1_loop.trips) (acc : FVec F S16x128 .f32) :
    tripR_k0_t1 (F := F) 𝒱 c bd i arg1 harg1 arg2 harg2 X k acc
    = (List.ofFn fun j : Fin 64 => chunk arg1 X (k0_off1 k 0) (row_lt k) j).foldl step acc := by
  unfold tripR_k0_t1 trip_k0_t1
  sl_kernel_rfl

/-- One trip folds the 64 chunks of its 16 rows into the running block. -/
theorem trip_eq (𝒱 : Variants) (c : Dev nD) (bd : Option 𝒱.V) (i : grid0.Coords) (arg1 : Memref sig .tc .vmem S256x8192 .bf16) (harg1 : arg1.IsWhole) (arg2 : Memref sig .tc .vmem S16x128 .f32) (harg2 : arg2.IsWhole) (X : BufTy.Contents (Elt F) arg1.view.ty) (k : ℕ) (hk : k < k0_t1_loop.trips) (hn : 16 * k + 16 ≤ 256) (acc : FVec F S16x128 .f32) :
    tripR_k0_t1 (F := F) 𝒱 c bd i arg1 harg1 arg2 harg2 X ⟨k, hk⟩ acc
    = (List.ofFn fun j : Fin 64 => chunk arg1 X (16 * k) hn j).foldl step acc := by
  have e : ∀ n n' : ℕ, n = n' → ∀ h h', chunk arg1 X n h = chunk arg1 X n' h' := by rintro n _ rfl _ _; rfl
  rw [trip_word, e _ _ (row_eq ⟨k, hk⟩) (row_lt _) hn]

end Cert.KTrip
-- ==== Proof.KSum.lean ====
/-
  The first call: its block ends holding, at each of its 16 x 128 places, the sum of the squares of the gradient's entries that the
  loops send there; all places together hold the sum over the whole gradient.
-/
module

public import proofs.«01_k».proof.Proof.KTrip
public import Idealize.ShloMosaic.Lib.Pointwise
public import Idealize.ShloMosaic.Lib.Pipeline.ValueKit

@[expose] public section
set_option maxRecDepth 65536
noncomputable section
namespace Cert.KSum
open Idealize.ShloMosaic Idealize.ShloMosaic.TcCoe Idealize.SL.Sem Cert.KernelIdeal Cert.KernelIdeal.Gen Cert.KTrip
open Idealize.ShloMosaic.Pipeline (Dat)

theorem hz : (![0, 0] : Fin 2 → Nat) = fun _ => 0 := funext fun a => by fin_cases a <;> rfl

/-- A fold of steps adds the squares at each place. -/
theorem fold_at (l : List (Vec Ideal S16x128 .bf16)) (y : S16x128.Idx) : ∀ a : FVec Ideal S16x128 .f32,
    (l.foldl step a) y = a y + (l.map fun g => (g y : EReal) * g y).sum := by
  induction l with
  | nil => intro a; simp
  | cons g l ih =>
    intro a
    rw [List.foldl_cons, ih, List.map_cons, List.sum_cons, ← add_assoc]
    rfl

theorem chunk_at (arg1 : Memref sig .tc .vmem S256x8192 .bf16) (harg1 : arg1.IsWhole) (x : Vec Ideal S256x8192 .bf16) (n : ℕ)
    (hn : n + 16 ≤ 256) (j : Fin 64) (r : Fin 16) (l : Fin 128) :
    chunk arg1 (harg1.unread x) n hn j (ix2 r l) = x (ix2 ⟨n + r.val, by omega⟩ ⟨128 * j.val + l.val, by omega⟩) := by
  unfold chunk
  rw [View.readAt_eq_ld, harg1.read_unread, View.ld_apply]
  congr 1
  funext a
  apply Fin.ext
  match a with
  | ⟨0, _⟩ => exact Rect.idx_unit_val ..
  | ⟨1, _⟩ => exact Rect.idx_unit_val ..

/-- What trip `k` adds at a place. -/
def T (x : Vec Ideal S256x8192 .bf16) (r : Fin 16) (l : Fin 128) (k : Fin 16) : EReal :=
  ∑ j : Fin 64, (x (ix2 ⟨16 * k.val + r.val, by omega⟩ ⟨128 * j.val + l.val, by omega⟩) : EReal)
    * x (ix2 ⟨16 * k.val + r.val, by omega⟩ ⟨128 * j.val + l.val, by omega⟩)

theorem st_at (𝒱 : Variants) (c : Dev nD) (bd : Option 𝒱.V) (i : grid0.Coords) (arg1 : Memref sig .tc .vmem S256x8192 .bf16) (harg1 : arg1.IsWhole) (arg2 : Memref sig .tc .vmem S16x128 .f32) (harg2 : arg2.IsWhole)
    (x : Vec Ideal S256x8192 .bf16) (init : FVec Ideal S16x128 .f32) (r : Fin 16) (l : Fin 128) : ∀ k : ℕ, k ≤ 16 →
    st_k0_t1 (F := Ideal) 𝒱 c bd i arg1 harg1 arg2 harg2 (harg1.unread x) init k (ix2 r l)
    = init (ix2 r l) + ∑ k' ∈ Finset.range k, (if h : k' < 16 then T x r l ⟨k', h⟩ else 0)
  | 0, _ => by rw [st_k0_t1_zero]; simp
  | k + 1, h => by
    have hT : k < k0_t1_loop.trips := lt_of_lt_of_eq h (by decide +kernel)
    rw [st_k0_t1_succ 𝒱 c bd i arg1 harg1 arg2 harg2 (harg1.unread x) init ⟨k, hT⟩, trip_eq 𝒱 c bd i arg1 harg1 arg2 harg2 _ k hT (by omega), fold_at,
      st_at 𝒱 c bd i arg1 harg1 arg2 harg2 x init r l k (by omega), Finset.sum_range_succ, dif_pos (by omega : k < 16), add_assoc]
    congr 2
    rw [List.map_ofFn, List.sum_ofFn]
    unfold T
    refine Finset.sum_congr rfl fun j _ => ?_
    rw [Function.comp_apply, chunk_at]

/-- What a point adds at a place. -/
def U (x : Vec Ideal S256x8192 .bf16) (r : Fin 16) (l : Fin 128) : EReal := ∑ k : Fin 16, T x r l k

theorem zero_at (y : S16x128.Idx) : (k0_pay2 (F := Ideal)) y = (0 : EReal) := by
  show Ideal.ofBits .f32 0x00000000#32 = 0
  simp [Ideal.ofBits, Ideal.ieee]

theorem zero_at' (y : S16x128.Idx) : (k0_pay1 (F := Ideal)) y = (0 : EReal) := zero_at y

theorem loop_at (𝒱 : Variants) (c : Dev nD) (bd : Option 𝒱.V) (i : grid0.Coords) (arg1 : Memref sig .tc .vmem S256x8192 .bf16) (harg1 : arg1.IsWhole) (arg2 : Memref sig .tc .vmem S16x128 .f32) (harg2 : arg2.IsWhole)
    (x : Vec Ideal S256x8192 .bf16) (r : Fin 16) (l : Fin 128) (n : ℕ) (hn : n = 16) :
    st_k0_t1 (F := Ideal) 𝒱 c bd i arg1 harg1 arg2 harg2 (harg1.unread x) (k0_pay2 (F := Ideal)) n (ix2 r l) = U x r l := by
  subst hn
  rw [st_at 𝒱 c bd i arg1 harg1 arg2 harg2 x _ r l 16 (le_refl _), zero_at, zero_add, Finset.sum_range]
  exact Finset.sum_congr rfl fun k _ => dif_pos k.isLt

theorem out_B (c : Dev nD) (i : grid0.Coords) (a1 : Memref sig .tc .vmem S256x8192 .bf16) (h1 : a1.IsWhole)
    (a2 : Memref sig .tc .vmem S16x128 .f32) (h2 : a2.IsWhole) (hc : ¬cond0_0 i) (x : Vec Ideal S256x8192 .bf16) (xo : Vec Ideal S16x128 .f32)
    (r : Fin 16) (l : Fin 128) :
    out0_B_1 c i a1 h1 a2 h2 hc x xo (ix2 r l) = (xo (ix2 r l) + U x r l : EReal) := by
  unfold out0_B_1
  rw [View.read_writes_eq_canon _ _ _ (cover0_B_1 c i a1 h1 a2 h2 hc x xo)]
  unfold kernelRun0_B
  dsimp only
  rw [View.canon_unit_zero hz]
  unfold k0_pay4
  simp only [View.readAt_eq_ld, h2.read_unread, View.ld_unit_zero (S := S16x128) hz, shapeCast_self]
  exact congrArg (xo (ix2 r l) + · : EReal → EReal) (loop_at _ c _ i a1 h1 a2 h2 x r l _ (by decide +kernel))

theorem out_A (c : Dev nD) (i : grid0.Coords) (a1 : Memref sig .tc .vmem S256x8192 .bf16) (h1 : a1.IsWhole)
    (a2 : Memref sig .tc .vmem S16x128 .f32) (h2 : a2.IsWhole) (hc : cond0_0 i) (x : Vec Ideal S256x8192 .bf16)
    (r : Fin 16) (l : Fin 128) :
    out0_A_1 c i a1 h1 a2 h2 hc x (ix2 r l) = (U x r l : EReal) := by
  unfold out0_A_1
  rw [View.read_writes_eq_canon _ _ _ (cover0_A_1 c i a1 h1 a2 h2 hc x)]
  unfold kernelRun0_A
  dsimp only
  sl_unfold_words
  rw [View.canon_cons_unit_zero (S := S16x128) hz, View.readCov_unit_zero (S := S16x128) _ hz]
  unfold k0_pay4
  simp only [shapeCast_self]
  refine (congrArg₂ (· + · : EReal → EReal → EReal) (zero_at' (ix2 r l)) (loop_at _ c _ i a1 h1 a2 h2 x r l _ (by decide +kernel))).trans (zero_add _)

section Array
variable (V : (c : Dev nD) → (b : Ref sig .tc) → Buf (Elt Ideal) ((c : Thread nD τ).loc b))

/-- The block after point `n`. -/
theorem outsAt_at (c : Dev nD) (r : Fin 16) (l : Fin 128) : ∀ (n : ℕ) (h : n < cfg0.N),
    outsAt0 V c n h (ix2 r l) = ∑ t : Fin (n + 1), (U (iblk0 V c 0 ⟨t.val, by omega⟩) r l : EReal)
  | 0, h => by
    rw [(outsAt0_A V c ⟨0, h⟩ rfl), out_A]
    simp
  | n + 1, h => by
    have hN : cfg0.N = 16 := N_0
    have hB : ¬(⟨n + 1, h⟩ : Fin cfg0.N).val % 16 = 0 := by dsimp only; omega
    rw [outsAt0_B V c ⟨n + 1, h⟩ hB, out_B, Fin.sum_univ_castSucc]
    congr 1
    exact outsAt_at c r l n _

theorem win_ix : ∀ t : Fin cfg0.N, win0_0.index t = ![t.val, 0] := by decide +kernel

/-- A point's block of the gradient. -/
theorem iblk_at (c : Dev nD) (t : Fin cfg0.N) (r : Fin 256) (q : Fin 8192) :
    iblk0 V c 0 t (ix2 r q) = V c main_arg1 (ix2 ⟨256 * t.val + r.val, by have := t.isLt; have : cfg0.N = 16 := N_0; omega⟩ q) := by
  blk_ext [iblk0, win_ix t]

/-- The call's result array. -/
theorem arr_at (c : Dev nD) (r : Fin 16) (l : Fin 128) : (dat0 V c).arrAt 1 cfg0.N (ix2 r l)
    = ∑ t : Fin 16, (U (iblk0 V c 0 ⟨t.val, lt_of_lt_of_eq t.isLt N_0.symm⟩) r l : EReal) := by
  have e : (dat0 V c).arrAt 1 cfg0.N = outsAt0 V c 15 (by rw [show cfg0.N = 16 from N_0]; decide) := by
    refine (dat0 V c).arrAt_eq_of_after_last 1 t0_15 (by decide +kernel) _ fun j => ?_
    blk_simp
    rw [after0_1]; rfl
  rw [e, outsAt_at]
end Array

end Cert.KSum
-- ==== Proof.Regroup.lean ====
/-
  A sum over a 4096 x 8192 array, regrouped: row 256 t + 16 k + r, column 128 j + l.
-/
module

public import Idealize.ShloMosaic.Lib.Pointwise

@[expose] public section
namespace Cert.Regroup

variable {M : Type*} [AddCommMonoid M]

theorem split (m n N : ℕ) (h : N = m * n) (f : Fin N → M) :
    ∑ r, f r = ∑ a : Fin m, ∑ b : Fin n, f ⟨n * a.val + b.val, by
      subst h
      calc n * a.val + b.val < n * a.val + n := by omega
        _ = n * (a.val + 1) := by ring
        _ ≤ n * m := Nat.mul_le_mul_left _ a.isLt
        _ = m * n := Nat.mul_comm _ _⟩ := by
  subst h
  rw [← finProdFinEquiv.sum_comp f, Fintype.sum_prod_type]
  refine Finset.sum_congr rfl fun a _ => Finset.sum_congr rfl fun b _ => congrArg f (Fin.ext ?_)
  rw [finProdFinEquiv_apply_val]
  exact Nat.add_comm _ _

theorem regroup (g : Fin 4096 → Fin 8192 → M) :
    ∑ r : Fin 16, ∑ l : Fin 128, ∑ t : Fin 16, ∑ k : Fin 16, ∑ j : Fin 64,
      g ⟨256 * t.val + (16 * k.val + r.val), by omega⟩ ⟨128 * j.val + l.val, by omega⟩ = ∑ r, ∑ q, g r q := by
  symm
  rw [split 16 256 4096 (by norm_num)]
  simp_rw [split 16 16 256 (by norm_num) (fun b : Fin 256 => ∑ q, g ⟨256 * _ + b.val, _⟩ q), split 64 128 8192 (by norm_num)]
  have e1 : ∀ (h : Fin 16 → Fin 16 → Fin 16 → Fin 64 → Fin 128 → M),
      ∑ t, ∑ k, ∑ r, ∑ j, ∑ l, h t k r j l = ∑ r, ∑ l, ∑ t, ∑ k, ∑ j, h t k r j l := by
    intro h
    calc ∑ t, ∑ k, ∑ r, ∑ j, ∑ l, h t k r j l
        = ∑ t, ∑ r, ∑ k, ∑ l, ∑ j, h t k r j l := by
          refine Finset.sum_congr rfl fun t _ => Finset.sum_comm.trans ?_
          exact Finset.sum_congr rfl fun r _ => Finset.sum_congr rfl fun k _ => Finset.sum_comm
      _ = ∑ t, ∑ r, ∑ l, ∑ k, ∑ j, h t k r j l :=
          Finset.sum_congr rfl fun t _ => Finset.sum_congr rfl fun r _ => Finset.sum_comm
      _ = ∑ r, ∑ t, ∑ l, ∑ k, ∑ j, h t k r j l := Finset.sum_comm
      _ = _ := Finset.sum_congr rfl fun r _ => Finset.sum_comm
  exact e1 fun t k r j l => g ⟨256 * t.val + (16 * k.val + r.val), by omega⟩ ⟨128 * j.val + l.val, by omega⟩

end Cert.Regroup
-- ==== Proof.KHost.lean ====
/-
  The three scalars the main call of the kernel reads.
-/
module

public import proofs.«01_k».proof.Proof.KSum
public import proofs.«01_k».proof.Proof.Regroup
public import proofs.«01_k».proof.Proof.Host
public import Idealize.ShloMosaic.Lib.StableHlo.RunRead
public import Idealize.ShloMosaic.Lib.IdealHost

@[expose] public section
set_option maxRecDepth 16384
noncomputable section
namespace Cert.KHost
open Idealize.ShloMosaic Idealize.ShloMosaic.TcCoe Idealize.SL.Sem Cert.KernelIdeal Cert.KernelIdeal.Gen Cert.Spec Cert.Host

variable (m : (ℓ : Loc nD τ sig) → Buf (Elt Ideal) ℓ) (ρ : Dev nD → PrngReg) (c : Dev nD)

theorem ix0_all (i : S_.Idx) : i = ix0 := funext fun a => a.elim0

/-- The sum of the first call's array. -/
abbrev tot : EReal := ∑ r : Fin 16, ∑ l : Fin 128, (W1 m ρ c main_v0 : S16x128.Idx → EReal) (ix2 r l)

theorem red (x : FVec Ideal S16x128 .f32) (i : S_.Idx) :
    (Host.reduceAdd (F := Ideal) x (constant S_ .f32 0x00000000#32) reducesTo_S16x128_S_d0_1 h_S_ i : EReal) = ∑ r : Fin 16, ∑ l : Fin 128, (x (ix2 r l) : EReal) := by
  rw [ValueIdx.hostReduceAdd_apply, Ideal.hostReduceAdd_total _ (fun b => b.elim0), sum_idx2]
  refine (congrArg (· + _ : EReal → EReal) (show _ = (0 : EReal) from ?_)).trans (zero_add _)
  show Ideal.ofBits .f32 0x00000000#32 = 0
  simp [Ideal.ofBits, Ideal.ieee]

theorem r13 : (StableHlo.upto hostOps1 (W1 m ρ c) 25 (Proc.devRef .tc main_v13) : S1.Idx → EReal) (ix1 0) = clip (tot m ρ c) := by
  have e : StableHlo.upto hostOps1 (W1 m ρ c) 25 (Proc.devRef .tc main_v13) = broadcastInDim S1 ![] bcast_S_S1
      (minimumf (constant (F := Ideal) S_ .f32 0x3F800000#32) (Host.divf (constant S_ .f32 0x3F800000#32)
        (addf (Host.sqrt (Host.reduceAdd (W1 m ρ c (Proc.devRef .tc main_v0)) (constant S_ .f32 0x00000000#32) reducesTo_S16x128_S_d0_1 h_S_))
          (constant S_ .f32 0x358637BD#32)))) := by after_reads_simp
  rw [e]
  refine (show _ = min (C 0x3F800000#32) (Ideal.div (C 0x3F800000#32) (Ideal.sqrt (Host.reduceAdd (F := Ideal) (W1 m ρ c (Proc.devRef .tc main_v0) : FVec Ideal S16x128 .f32) (constant S_ .f32 0x00000000#32) reducesTo_S16x128_S_d0_1 h_S_ _) + C 0x358637BD#32)) from rfl).trans ?_
  rw [red]
  rfl

theorem bias_of (w : BitVec 32) (a : S_.Idx → BitVec 32) (i : S_.Idx) :
    subf (constant (F := Ideal) S_ .f32 0x3F800000#32) (Host.powf (constant S_ .f32 w) (sitofp .f32 a)) i = bias w (a ix0) := by
  rw [ix0_all i]; rfl

theorem r14 : (StableHlo.upto hostOps1 (W1 m ρ c) 25 (Proc.devRef .tc main_v14) : S1.Idx → EReal) (ix1 0)
    = Ideal.div (C 0x3F800000#32) (bias 0x3F666666#32 (stepOf (W1 m ρ c main_arg6))) := by
  have e : StableHlo.upto hostOps1 (W1 m ρ c) 25 (Proc.devRef .tc main_v14) = broadcastInDim S1 ![] bcast_S_S1
      (Host.divf (constant (F := Ideal) S_ .f32 0x3F800000#32) (subf (constant S_ .f32 0x3F800000#32)
        (Host.powf (constant S_ .f32 0x3F666666#32) (sitofp .f32 (W1 m ρ c (Proc.devRef .tc main_arg6)))))) := by after_reads_simp
  rw [e]
  exact congrArg (Ideal.div (C 0x3F800000#32)) (bias_of _ _ _)

theorem r15 : (StableHlo.upto hostOps1 (W1 m ρ c) 25 (Proc.devRef .tc main_v15) : S1.Idx → EReal) (ix1 0)
    = Ideal.div (C 0x3F800000#32) (bias 0x3F7FBE77#32 (stepOf (W1 m ρ c main_arg6))) := by
  have e : StableHlo.upto hostOps1 (W1 m ρ c) 25 (Proc.devRef .tc main_v15) = broadcastInDim S1 ![] bcast_S_S1
      (Host.divf (constant (F := Ideal) S_ .f32 0x3F800000#32) (subf (constant S_ .f32 0x3F800000#32)
        (Host.powf (constant S_ .f32 0x3F7FBE77#32) (sitofp .f32 (W1 m ρ c (Proc.devRef .tc main_arg6)))))) := by after_reads_simp
  rw [e]
  exact congrArg (Ideal.div (C 0x3F800000#32)) (bias_of _ _ _)

theorem sc_eq : V2 m ρ c main_v16 = concatenate S3 0
      [⟨S1, StableHlo.upto hostOps1 (W1 m ρ c) 25 (Proc.devRef .tc main_v13)⟩,
        ⟨S1, StableHlo.upto hostOps1 (W1 m ρ c) 25 (Proc.devRef .tc main_v14)⟩,
        ⟨S1, StableHlo.upto hostOps1 (W1 m ρ c) 25 (Proc.devRef .tc main_v15)⟩]
      concatenates_S1_S1_S1_S3_d0 := by
  unfold_abbrev_sides
  after_reads_simp
  rfl

theorem cat (x y z : FVec Ideal S1 .f32) : concatenate S3 0 [⟨S1, x⟩, ⟨S1, y⟩, ⟨S1, z⟩] concatenates_S1_S1_S1_S3_d0 (ix1 0) = x (ix1 0)
    ∧ concatenate S3 0 [⟨S1, x⟩, ⟨S1, y⟩, ⟨S1, z⟩] concatenates_S1_S1_S1_S3_d0 (ix1 1) = y (ix1 0)
    ∧ concatenate S3 0 [⟨S1, x⟩, ⟨S1, y⟩, ⟨S1, z⟩] concatenates_S1_S1_S1_S3_d0 (ix1 2) = z (ix1 0) := by
  refine ⟨?_, ?_, ?_⟩ <;> pointwise <;> rfl

/-- The first call's total is the sum of the squares of the gradient. -/
theorem tot_eq : tot m ρ c = sumSq (m ((c : Thread nD τ).loc main_arg1)) := by
  unfold sumSq
  rw [← Regroup.regroup]
  refine Finset.sum_congr rfl fun r _ => Finset.sum_congr rfl fun l _ => ?_
  have e : W1 m ρ c main_v0 = (dat0 (V0 m ρ) c).arrAt 1 cfg0.N := W1_arr m ρ c 1
  rw [e, KSum.arr_at]
  refine Finset.sum_congr rfl fun t _ => ?_
  unfold KSum.U KSum.T
  refine Finset.sum_congr rfl fun k _ => Finset.sum_congr rfl fun j _ => ?_
  rw [KSum.iblk_at]

/-- The clipping factor the main call reads. -/
theorem sc0 : (V2 m ρ c main_v16 : S3.Idx → EReal) (ix1 0) = clip (sumSq (m ((c : Thread nD τ).loc main_arg1))) := by
  rw [sc_eq, ← tot_eq m ρ c, ← r13 m ρ c]
  exact (cat _ _ _).1
/-- The inverses of the bias corrections it reads. -/
theorem sc1 : (V2 m ρ c main_v16 : S3.Idx → EReal) (ix1 1)
    = Ideal.div (C 0x3F800000#32) (bias 0x3F666666#32 (stepOf (m ((c : Thread nD τ).loc main_arg6)))) := by
  rw [sc_eq, ← W1_args m ρ c main_arg6 (by decide), ← r14 m ρ c]
  exact (cat _ _ _).2.1
theorem sc2 : (V2 m ρ c main_v16 : S3.Idx → EReal) (ix1 2)
    = Ideal.div (C 0x3F800000#32) (bias 0x3F7FBE77#32 (stepOf (m ((c : Thread nD τ).loc main_arg6)))) := by
  rw [sc_eq, ← W1_args m ρ c main_arg6 (by decide), ← r15 m ρ c]
  exact (cat _ _ _).2.2

end Cert.KHost
-- ==== Proof.Scale.lean ====
/-
  The kernel's scale is the reference's: the exponent found by comparing with the 256 powers of two is the rounded logarithm, and the
  scale built from its bits is that power of two.
-/
module

public import proofs.«01_k».proof.Proof.Spec

@[expose] public section
set_option maxRecDepth 16384
noncomputable section
namespace Cert.Scale
open Idealize.ShloMosaic Cert.Spec

/-- The number whose exponent field is `k` and whose other bits are zero. -/
abbrev P (k : ℕ) : EReal := C (IntOp.shli ArithUnit.vector (BitVec.ofNat 32 k) 23#32)

theorem bits_P : ∀ k : Fin 256,
    (((IntOp.shli ArithUnit.vector (BitVec.ofNat 32 k.val) 23#32).extractLsb' 31 1 == 1#1) = false)
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by
  decide +kernel

/-- A number without sign and fraction bits is read off its exponent field. -/
theorem C_field (w : BitVec 32) (k : ℕ) (h1 : (w.extractLsb' 31 1 == 1#1) = false) (h2 : (w.extractLsb' 23 8).toNat = k)
    (h3 : (w.extractLsb' 0 23).toNat = 0) :
    C w = if k = 255 then ⊤ else if k = 0 then 0 else (((2 : ℝ) ^ ((k : ℤ) - 127) : ℝ) : EReal) := by
  unfold C Ideal.ofBits Ideal.ieee
  simp only [show 8 + 23 = 31 from rfl, h1, h2, h3]
  by_cases h255 : k = 255
  · simp [h255]
  · by_cases h0 : k = 0
    · simp [h0]
    · rw [if_neg h255, if_neg h0, if_neg (by simpa using h255), if_neg h0]
      congr 1
      have : ((2 : ℝ) ^ ((k : ℤ) - 127)) = 2 ^ (23 : ℤ) * 2 ^ ((k : ℤ) - 127 - 23) := by
        rw [← zpow_add₀ (by norm_num)]; congr 1; ring
      rw [this]
      norm_num

theorem P_eq (k : ℕ) (hk : k < 256) :
    P k = if k = 255 then ⊤ else if k = 0 then 0 else (((2 : ℝ) ^ ((k : ℤ) - 127) : ℝ) : EReal) :=
  C_field _ k (bits_P ⟨k, hk⟩).1 (bits_P ⟨k, hk⟩).2.1 (bits_P ⟨k, hk⟩).2.2

theorem P_zero : P 0 = 0 := by rw [P_eq 0 (by norm_num)]; simp
theorem P_top : P 255 = ⊤ := by rw [P_eq 255 (by norm_num)]; simp
theorem P_mid (k : ℕ) (h0 : 0 < k) (hk : k < 255) : P k = (((2 : ℝ) ^ ((k : ℤ) - 127) : ℝ) : EReal) := by
  rw [P_eq k (by omega), if_neg (by omega), if_neg (by omega)]

theorem maxsi_toInt (x y : BitVec 32) : (IntOp.maxsi x y).toInt = max x.toInt y.toInt := by
  unfold IntOp.maxsi
  simp only [BitVec.slt_eq_decide]
  grind

/-- What the maximum over the fields is, from the place where the comparisons turn. -/
theorem fieldK_eq (t : EReal) (m : ℕ) (hm : m < 256) (h1 : ¬ t < P m) (h2 : ∀ k, m < k → k < 256 → t < P k) :
    fieldK t = BitVec.ofNat 32 m := by
  have hI : ∀ k, k < 256 → (BitVec.ofNat 32 k).toInt = k := by
    intro k hk; rw [BitVec.toInt_eq_toNat_cond, BitVec.toNat_ofNat]; norm_num; omega
  apply BitVec.eq_of_toInt_eq
  unfold fieldK
  rw [← Finset.fold_hom (op' := max) (m := BitVec.toInt) maxsi_toInt, hI m hm]
  apply le_antisymm
  · rw [Finset.fold_max_le]
    refine ⟨(show (2147483648#32).toInt ≤ 0 by decide).trans (Int.natCast_nonneg m), fun k _ => ?_⟩
    split
    · simp
    · next h =>
      rw [hI _ k.isLt]
      by_contra hc
      exact h (h2 k.val (by omega) k.isLt)
  · rw [Finset.le_fold_max]
    refine Or.inr ⟨⟨m, hm⟩, Finset.mem_univ _, ?_⟩
    rw [if_neg h1, hI m hm]

theorem c127 : C 0x42FE0000#32 = ((127 : ℝ) : EReal) := by
  simp [C, Ideal.ofBits, Ideal.ieee, ← EReal.coe_mul]; norm_num
theorem c126 : C 0x42FC0000#32 = ((126 : ℝ) : EReal) := by
  simp [C, Ideal.ofBits, Ideal.ieee, ← EReal.coe_mul]; norm_num
theorem cm126 : C 0xC2FC0000#32 = ((-126 : ℝ) : EReal) := by
  simp [C, Ideal.ofBits, Ideal.ieee, ← EReal.coe_mul]; norm_num
theorem cbot : C 0xFF800000#32 = ⊥ := by simp [C, Ideal.ofBits, Ideal.ieee]

/-- Where the logarithm's floor puts a number between two powers. -/
theorem between (τ : ℝ) (h : 0 < τ) (n : ℤ) (hn : n = ⌊Real.log τ * (1 / Real.log 2)⌋) : (2 : ℝ) ^ n ≤ τ ∧ τ < (2 : ℝ) ^ (n + 1) := by
  have h2 : 0 < Real.log 2 := Real.log_pos (by norm_num)
  have e : Real.log τ * (1 / Real.log 2) = Real.log τ / Real.log 2 := by ring
  rw [e] at hn
  have a := Int.floor_le (Real.log τ / Real.log 2)
  have b := Int.lt_floor_add_one (Real.log τ / Real.log 2)
  rw [← hn] at a b
  rw [le_div_iff₀ h2] at a
  rw [div_lt_iff₀ h2] at b
  constructor
  · rw [← Real.log_le_log_iff (by positivity) h, Real.log_zpow]; exact a
  · rw [← Real.log_lt_log_iff h (by positivity), Real.log_zpow]; push_cast; exact b

/-- The kernel's words on the range of the field. -/
theorem word_scale : ∀ k : Fin 255, IntOp.shli ArithUnit.vector (IntOp.addi (IntOp.subi (BitVec.ofNat 32 k.val) 126#32) 127#32) 23#32
    = IntOp.shli ArithUnit.vector (BitVec.ofNat 32 (k.val + 1)) 23#32 := by decide +kernel
theorem word_inv : ∀ k : Fin 254, IntOp.shli ArithUnit.vector (IntOp.subi 127#32 (IntOp.subi (BitVec.ofNat 32 k.val) 126#32)) 23#32
    = IntOp.shli ArithUnit.vector (BitVec.ofNat 32 (253 - k.val)) 23#32 := by decide +kernel
theorem word_inv_top : IntOp.shli ArithUnit.vector (IntOp.subi 127#32 (IntOp.subi (BitVec.ofNat 32 254) 126#32)) 23#32 = 0xFF800000#32 := by decide +kernel
theorem not_255 : ∀ k : Fin 255, IntOp.cmpi .eq (BitVec.ofNat 32 k.val) 255#32 = 0#1 := by decide +kernel

/-- The exponent of a positive number below the infinity. -/
theorem expK_real (τ : ℝ) (h : 0 < τ) (k : ℕ) (hk : k < 255) (hf : fieldK τ = BitVec.ofNat 32 k) :
    expK τ = IntOp.subi (BitVec.ofNat 32 k) 126#32 := by
  unfold expK
  rw [hf, not_255 ⟨k, hk⟩, decide_eq_false (by exact_mod_cast h.ne')]
  rfl

theorem one : IntOp.shli ArithUnit.vector (IntOp.addi 0#32 127#32) 23#32 = IntOp.shli ArithUnit.vector (BitVec.ofNat 32 127) 23#32
    ∧ IntOp.shli ArithUnit.vector (IntOp.subi 127#32 0#32) 23#32 = IntOp.shli ArithUnit.vector (BitVec.ofNat 32 127) 23#32 := by decide +kernel

theorem P127 : P 127 = 1 := by rw [P_mid 127 (by norm_num) (by norm_num)]; norm_num

theorem exp2_coe (x : ℝ) : Ideal.exp2 (x : EReal) = (((2 : ℝ) ^ x : ℝ) : EReal) := rfl

theorem exp2_zero : Ideal.exp2 0 = 1 := by
  rw [show (0 : EReal) = ((0 : ℝ) : EReal) from rfl, exp2_coe, Real.rpow_zero]; rfl

/-- Where both exponents are zero, both scales are one. -/
theorem both_one (a t : EReal) (hk : expK t = 0#32) (hr : expR a t = 0) : scaleK t = scaleR a t ∧ invK t = invR a t := by
  unfold scaleK scaleR invK invR
  rw [hk, hr, one.1, one.2, c127, c126, if_neg (by simp), if_neg (by simp), if_neg (by simp), sub_zero, exp2_zero]
  exact ⟨P127, P127⟩

theorem exp2_int (n : ℤ) : Ideal.exp2 (((n : ℝ)) : EReal) = (((2 : ℝ) ^ n : ℝ) : EReal) := by
  rw [exp2_coe, Real.rpow_intCast]

/-- The scales agree: `a` is the group's largest magnitude, `t` that magnitude over the format's largest number. -/
theorem scale_eq (a t : EReal) (ht : 0 ≤ t) (h : a = 0 ↔ t = 0) : scaleK t = scaleR a t ∧ invK t = invR a t := by
  rcases eq_or_ne t ⊤ with rfl | htop
  · apply both_one
    · unfold expK
      rw [fieldK_eq ⊤ 255 (by norm_num) (by simp) (by intro k h1 h2; omega)]
      simp [Scalar.select, IntOp.ori, IntOp.cmpi]
    · unfold expR; rw [if_pos (Or.inr rfl)]
  · rcases eq_or_lt_of_le ht with h0 | hpos
    · subst h0
      apply both_one
      · unfold expK
        rw [decide_eq_true rfl]
        have e : ∀ y : BitVec 1, 1#1 ||| y = 1#1 := by decide
        simp [Scalar.select, IntOp.ori, e]
      · unfold expR; rw [if_pos (Or.inl (h.2 rfl))]
    · lift t to ℝ using ⟨htop, (lt_trans (EReal.bot_lt_coe 0) hpos).ne'⟩
      have hτ : 0 < t := by exact_mod_cast hpos
      have hl2 : Real.log 2 ≠ 0 := (Real.log_pos (by norm_num)).ne'
      obtain ⟨n, hn⟩ : ∃ n : ℤ, n = ⌊Real.log t * (1 / Real.log 2)⌋ := ⟨_, rfl⟩
      obtain ⟨lo, hi⟩ := between t hτ n hn
      have hE : expR a t = ((max (n + 1) (-126) : ℤ) : ℝ) := by
        unfold expR
        rw [if_neg (by rw [h]; simp [hτ.ne']), Ideal.div_coe hl2, cm126]
        rw [show Ideal.log (t : EReal) = ((Real.log t : ℝ) : EReal) by
          show (if t ≤ 0 then (⊥ : EReal) else _) = _
          rw [if_neg (not_le.2 hτ)]]
        rw [← EReal.coe_mul, show Ideal.liftRound Int.floor ((Real.log t * (1 / Real.log 2) : ℝ) : EReal) = ((n : ℝ) : EReal) by rw [hn]; rfl]
        rw [show (1 : EReal) = ((1 : ℝ) : EReal) from rfl, ← EReal.coe_add, ← EReal.coe_strictMono.monotone.map_max]
        push_cast; rfl
      have lt_of (k : ℕ) (hk : 0 < k) (hk' : k < 256) (hnk : n + 1 ≤ (k : ℤ) - 127) : (t : EReal) < P k := by
        rcases eq_or_ne k 255 with rfl | h5
        · rw [P_top]; exact EReal.coe_lt_top t
        · rw [P_mid k hk (by omega)]
          exact_mod_cast hi.trans_le (zpow_le_zpow_right₀ (by norm_num) hnk)
      have not_lt_of (k : ℕ) (hk : k < 255) (hnk : k = 0 ∨ (k : ℤ) - 127 ≤ n) : ¬ (t : EReal) < P k := by
        rcases eq_or_ne k 0 with rfl | h5
        · rw [P_zero]; exact not_lt.2 hpos.le
        · rw [P_mid k (by omega) hk]
          have := (zpow_le_zpow_right₀ (a := (2 : ℝ)) (by norm_num) (hnk.resolve_left h5)).trans lo
          exact not_lt.2 (by exact_mod_cast this)
      rcases le_or_gt 127 n with h1 | h1
      · have hk := expK_real t hτ 254 (by norm_num) (fieldK_eq t 254 (by norm_num) (not_lt_of 254 (by norm_num) (Or.inr (by norm_num; exact h1)))
          (by intro k h3 h4; obtain rfl : k = 255 := by omega
              rw [P_top]; exact EReal.coe_lt_top t))
        have hb : (127 : ℝ) < ((max (n + 1) (-126) : ℤ) : ℝ) := by exact_mod_cast (show (127 : ℤ) < max (n + 1) (-126) by omega)
        unfold scaleK scaleR invK invR
        rw [hk, hE, c127, if_pos (by exact_mod_cast hb), if_pos (by exact_mod_cast hb), word_inv_top, word_scale ⟨254, by norm_num⟩]
        exact ⟨P_top, cbot⟩
      · obtain ⟨k, hk254, hmax⟩ : ∃ k : ℕ, k < 254 ∧ (k : ℤ) - 126 = max (n + 1) (-126) := ⟨(max (n + 1) (-126) + 126).toNat, by omega, by omega⟩
        have hk := expK_real t hτ k (by omega) (fieldK_eq t k (by omega) (not_lt_of k (by omega) (by omega))
          (fun k' h3 h4 => lt_of k' (by omega) h4 (by omega)))
        have hb : ¬ (127 : ℝ) < (((k : ℤ) - 126 : ℤ) : ℝ) := by exact_mod_cast (show ¬ (127 : ℤ) < (k : ℤ) - 126 by omega)
        unfold scaleK scaleR invK invR
        rw [hk, hE, ← hmax, c127, c126, if_neg (by exact_mod_cast hb), if_neg (by exact_mod_cast hb), exp2_int,
          word_scale ⟨k, by omega⟩, word_inv ⟨k, hk254⟩]
        refine ⟨?_, ?_⟩
        · show P (k + 1) = _
          rw [P_mid (k + 1) (by omega) (by omega)]
          congr 2; push_cast; ring
        · show P (253 - k) = _
          rcases eq_or_ne k 253 with rfl | h53
          · rw [if_pos (by norm_num)]; exact P_zero
          · have hb' : ¬ (126 : ℝ) < (((k : ℤ) - 126 : ℤ) : ℝ) := by exact_mod_cast (show ¬ (126 : ℤ) < (k : ℤ) - 126 by omega)
            rw [if_neg (by exact_mod_cast hb'), P_mid (253 - k) (by omega) (by omega)]
            rw [show (0 : EReal) - ((((k : ℤ) - 126 : ℤ) : ℝ) : EReal) = (((126 - k : ℤ) : ℝ) : EReal) by
              rw [show (0 : EReal) = ((0 : ℝ) : EReal) from rfl, ← EReal.coe_sub]; norm_num [← EReal.coe_sub], exp2_int]
            congr 2; omega

end Cert.Scale
-- ==== Proof.Equation.lean ====
/-
  The two programs' element formulas agree: the scale of a group, and the step once the bias corrections are not zero.
-/
module

public import proofs.«01_k».proof.Proof.Scale
public import proofs.«01_k».proof.Proof.Host

@[expose] public section
noncomputable section
namespace Cert.Equation
open Idealize.ShloMosaic Cert.Spec Cert.Host

/-- The largest magnitude of a group is not negative. -/
theorem amax_nonneg (x : Fin 128 → EReal) : 0 ≤ amax x := by
  unfold amax
  rw [Finset.le_fold_max]
  right
  refine ⟨0, Finset.mem_univ _, ?_⟩
  rcases le_total 0 (x 0) with h | h
  · exact le_max_of_le_left h
  · exact le_max_of_le_right (by simpa using EReal.neg_le_neg_iff.mpr h)

theorem rcM : ∃ k : ℝ, 0 < k ∧ C 0x3B124925#32 = (k : EReal) := by
  refine ⟨_, ?_, by simp [C, Ideal.ofBits, Ideal.ieee, ← EReal.coe_mul]; rfl⟩
  norm_num
theorem rcV : ∃ k : ℝ, 0 < k ∧ C 0x37924925#32 = (k : EReal) := by
  refine ⟨_, ?_, by simp [C, Ideal.ofBits, Ideal.ieee, ← EReal.coe_mul]; rfl⟩
  norm_num

/-- Scale and inverse agree for a group of largest magnitude `a`. -/
theorem scales (a rc : EReal) (ha : 0 ≤ a) (h : ∃ k : ℝ, 0 < k ∧ rc = (k : EReal)) :
    scaleK (a * rc) = scaleR a (a * rc) ∧ invK (a * rc) = invR a (a * rc) := by
  obtain ⟨k, hk, rfl⟩ := h
  have hk' : (0 : EReal) < (k : EReal) := by exact_mod_cast hk
  refine Scale.scale_eq a _ (mul_nonneg ha hk'.le) ⟨fun h => by rw [h, zero_mul], fun h => ?_⟩
  rcases mul_eq_zero.mp h with h | h
  · exact h
  · exact absurd h hk'.ne'

theorem one_eq : C 0x3F800000#32 = ((1 : ℝ) : EReal) := by
  simp [C, Ideal.ofBits, Ideal.ieee, ← EReal.coe_mul]
  norm_num

/-- Multiplying by the inverse of a real that is not zero is dividing by it. -/
theorem mul_div_one (x : EReal) (b : ℝ) (hb : b ≠ 0) : x * Ideal.div (C 0x3F800000#32) (b : EReal) = Ideal.div x (b : EReal) := by
  rw [one_eq, EReal.coe_one, Ideal.div_coe hb, Ideal.div_coe hb, one_mul]

/-- A decay strictly between zero and one, at a step that is not zero, leaves a bias correction that is not zero. -/
theorem bias_real (w n : BitVec 32) (hn : n ≠ 0#32) (h : ∃ β : ℝ, 0 < β ∧ β < 1 ∧ C w = (β : EReal)) : ∃ b : ℝ, b ≠ 0 ∧ bias w n = (b : EReal) := by
  obtain ⟨β, h0, h1, hw⟩ := h
  refine ⟨1 - Real.rpow β (n.toInt : ℝ), ?_, ?_⟩
  · intro e
    have e1 : β ^ (n.toInt : ℝ) = 1 := by
      have : Real.rpow β (n.toInt : ℝ) = β ^ (n.toInt : ℝ) := rfl
      rw [this] at e; linarith
    rcases lt_trichotomy (n.toInt : ℝ) 0 with h | h | h
    · exact absurd e1 (Real.one_lt_rpow_of_pos_of_lt_one_of_neg h0 h1 h).ne'
    · have : n.toInt = 0 := by exact_mod_cast h
      exact hn (BitVec.eq_of_toInt_eq (by simpa using this))
    · exact absurd e1 (Real.rpow_lt_one h0.le h1 h).ne
  · unfold bias
    rw [hw, one_eq, EReal.coe_sub]
    rfl

theorem b1 : ∃ β : ℝ, 0 < β ∧ β < 1 ∧ C 0x3F666666#32 = (β : EReal) := by
  refine ⟨_, ?_, ?_, by simp [C, Ideal.ofBits, Ideal.ieee, ← EReal.coe_mul]; rfl⟩ <;> norm_num
theorem b2 : ∃ β : ℝ, 0 < β ∧ β < 1 ∧ C 0x3F7FBE77#32 = (β : EReal) := by
  refine ⟨_, ?_, ?_, by simp [C, Ideal.ofBits, Ideal.ieee, ← EReal.coe_mul]; rfl⟩ <;> norm_num

/-- The step agrees. -/
theorem steps (n : BitVec 32) (hn : n ≠ 0#32) (m v p : EReal) :
    stepK (Ideal.div (C 0x3F800000#32) (bias 0x3F666666#32 n)) (Ideal.div (C 0x3F800000#32) (bias 0x3F7FBE77#32 n)) m v p
      = stepR (bias 0x3F666666#32 n) (bias 0x3F7FBE77#32 n) m v p := by
  obtain ⟨x, hx, ex⟩ := bias_real _ n hn b1
  obtain ⟨y, hy, ey⟩ := bias_real _ n hn b2
  unfold stepK stepR
  rw [ex, ey, mul_div_one _ _ hx, mul_div_one _ _ hy]

end Cert.Equation
-- ==== Proof.KValue.lean ====
/-
  The kernel's five results, as functions of its arguments.
-/
module

public import proofs.«01_k».proof.Proof.KArr
public import proofs.«01_k».proof.Proof.KRun
public import proofs.«01_k».proof.Proof.KHost
public import proofs.«01_k».proof.Proof.Equation
public import proofs.«01_k».proof.Proof.Result

@[expose] public section
set_option maxRecDepth 16384
noncomputable section
namespace Cert.KValue
open Idealize.ShloMosaic Idealize.ShloMosaic.TcCoe Idealize.SL.Sem Cert.KernelIdeal Cert.KernelIdeal.Gen Cert.Spec Cert.Host Cert.Equation Cert.KArr

variable (m : (ℓ : Loc nD τ sig) → Buf (Elt Ideal) ℓ) (ρ : Dev nD → PrngReg) (c : Dev nD)

theorem V2_args (a : Ref sig .tc) (ha : a ∈ argRefs) : V2 m ρ c a = m ((c : Thread nD τ).loc a) := W2_args m ρ c a ha

theorem gA_eq : gA (V2 m ρ) c = clipped (m ((c : Thread nD τ).loc main_arg1)) := by
  funext r k
  unfold gA clipped f2
  rw [KHost.sc0, V2_args m ρ c main_arg1 (by decide)]
theorem mA_eq : mA (V2 m ρ) c = newM (m ((c : Thread nD τ).loc main_arg1)) (m ((c : Thread nD τ).loc main_arg2)) (m ((c : Thread nD τ).loc main_arg3)) := by
  unfold mA newM
  rw [gA_eq, V2_args m ρ c main_arg2 (by decide), V2_args m ρ c main_arg3 (by decide)]
theorem vA_eq : vA (V2 m ρ) c = newV (m ((c : Thread nD τ).loc main_arg1)) (m ((c : Thread nD τ).loc main_arg4)) (m ((c : Thread nD τ).loc main_arg5)) := by
  unfold vA newV
  rw [gA_eq, V2_args m ρ c main_arg4 (by decide), V2_args m ρ c main_arg5 (by decide)]

/-- The parameters' steps. -/
theorem val7 (hn : stepOf (m ((c : Thread nD τ).loc main_arg6)) ≠ 0#32) : (dat1 (V2 m ρ) c).arrAt 7 cfg1.N = resStep (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (stepOf (m ((c : Thread nD τ).loc main_arg6))) := by
  rw [arr7]
  funext y
  rw [KHost.sc1, KHost.sc2, mA_eq, vA_eq, V2_args m ρ c main_arg0 (by decide), steps _ hn]
  rfl

/-- The first moment's codes. -/
theorem val8 : (dat1 (V2 m ρ) c).arrAt 8 cfg1.N = codes 0xC3E00000#32 0x43E00000#32 0x3B124925#32 (newM (m ((c : Thread nD τ).loc main_arg1)) (m ((c : Thread nD τ).loc main_arg2)) (m ((c : Thread nD τ).loc main_arg3))) := by
  rw [arr8]
  funext y
  rw [mA_eq]
  exact congrArg (code _ _ _) (scales _ _ (amax_nonneg _) rcM).2

/-- The first moment's scales. -/
theorem val9 : (dat1 (V2 m ρ) c).arrAt 9 cfg1.N = scalesOf 0x3B124925#32 (newM (m ((c : Thread nD τ).loc main_arg1)) (m ((c : Thread nD τ).loc main_arg2)) (m ((c : Thread nD τ).loc main_arg3))) := by
  rw [arr9]
  funext y
  rw [mA_eq]
  exact (scales _ _ (amax_nonneg _) rcM).1

/-- The second moment's codes. -/
theorem val10 : (dat1 (V2 m ρ) c).arrAt 10 cfg1.N = codes 0x00000000#32 0x47600000#32 0x37924925#32 (newV (m ((c : Thread nD τ).loc main_arg1)) (m ((c : Thread nD τ).loc main_arg4)) (m ((c : Thread nD τ).loc main_arg5))) := by
  rw [arr10]
  funext y
  rw [vA_eq]
  exact congrArg (code _ _ _) (scales _ _ (amax_nonneg _) rcV).2

/-- The second moment's scales. -/
theorem val11 : (dat1 (V2 m ρ) c).arrAt 11 cfg1.N = scalesOf 0x37924925#32 (newV (m ((c : Thread nD τ).loc main_arg1)) (m ((c : Thread nD τ).loc main_arg4)) (m ((c : Thread nD τ).loc main_arg5))) := by
  rw [arr11]
  funext y
  rw [vA_eq]
  exact (scales _ _ (amax_nonneg _) rcV).1

/-- The kernel's run, its results as functions of its arguments. -/
theorem run (hn : ∀ c : Dev nD, stepOf (m ((c.tc : Thread nD τ).loc main_arg6)) ≠ 0#32) :
    θ_run defs (onTc (τ := τ) (main (F := Ideal))) ⟨m, fun _ => 0, ρ⟩ (fun r => ∀ c : Dev nD,
      r.2.mem ((c.tc : Thread nD τ).loc main_v17_0) = resStep (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (stepOf (m ((c.tc : Thread nD τ).loc main_arg6)))
      ∧ r.2.mem ((c.tc : Thread nD τ).loc main_v17_1) = codes 0xC3E00000#32 0x43E00000#32 0x3B124925#32 (newM (m ((c.tc : Thread nD τ).loc main_arg1)) (m ((c.tc : Thread nD τ).loc main_arg2)) (m ((c.tc : Thread nD τ).loc main_arg3)))
      ∧ r.2.mem ((c.tc : Thread nD τ).loc main_v17_2) = scalesOf 0x3B124925#32 (newM (m ((c.tc : Thread nD τ).loc main_arg1)) (m ((c.tc : Thread nD τ).loc main_arg2)) (m ((c.tc : Thread nD τ).loc main_arg3)))
      ∧ r.2.mem ((c.tc : Thread nD τ).loc main_v17_3) = codes 0x00000000#32 0x47600000#32 0x37924925#32 (newV (m ((c.tc : Thread nD τ).loc main_arg1)) (m ((c.tc : Thread nD τ).loc main_arg4)) (m ((c.tc : Thread nD τ).loc main_arg5)))
      ∧ r.2.mem ((c.tc : Thread nD τ).loc main_v17_4) = scalesOf 0x37924925#32 (newV (m ((c.tc : Thread nD τ).loc main_arg1)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h0, h1, h2, h3, h4, ha⟩ := h.1 c
    exact ⟨h0.trans (val7 m ρ c (hn c)), h1.trans (val8 m ρ c), h2.trans (val9 m ρ c), h3.trans (val10 m ρ c), h4.trans (val11 m ρ c), ha⟩)
    (KRun.run m ρ)

end Cert.KValue
-- ==== Proof.RElem.lean ====
/-
  The reference's body, read at an index.
-/
module

public import proofs.«01_k».proof.Proof.Gen.ReferenceIdeal.Skeleton
public import proofs.«01_k».proof.Proof.Spec
public import Idealize.ShloMosaic.Lib.Pointwise

@[expose] public section
set_option maxRecDepth 16384
noncomputable section
namespace Cert.RElem
open Idealize.ShloMosaic Cert.ReferenceIdeal Cert.ReferenceIdeal.Gen Cert.Spec

/-- The constant named exactly: the natural logarithm of two. -/
theorem ln2_eq : (Named.named (F := Ideal) (φ := .f32) κ "ln2" 0x3F317218#32 : EReal) = ((Real.log 2 : ℝ) : EReal) :=
  IdealRules.named_const.ideal_named_scalar _ _ _ _ rfl

theorem m_at (g : FVec Ideal S4096x8192 .f32) (q : Vec Ideal S4096x8192 .fp8e4m3) (s : Vec Ideal S4096x64 .f32) (r : Fin 4096) (k : Fin 8192) :
    k0_pay5 (F := Ideal) g q s (ix2 r k) = mNew (s (ix2 r (grp k))) (q (ix2 r k)) (g (ix2 r k)) := by
  pointwise [k0_pay5, k0_pay4]
  rfl

theorem v_at (g : FVec Ideal S4096x8192 .f32) (q : Vec Ideal S4096x8192 .fp8e5m2) (s : Vec Ideal S4096x64 .f32) (r : Fin 4096) (k : Fin 8192) :
    k0_pay6 (F := Ideal) g q s (ix2 r k) = vNew (s (ix2 r (grp k))) (q (ix2 r k)) (g (ix2 r k)) := by
  pointwise [k0_pay6, k0_pay4]
  rfl

/-- The array cut into groups. -/
theorem cast_at (x : FVec Ideal S4096x8192 .f32) (r : Fin 4096) (j : Fin 64) (l : Fin 128) :
    shapeCast S4096x64x128 x shapeCasts_S4096x8192_S4096x64x128 (ix3 r j l) = x (ix2 r (col j l)) := by
  pointwise
  rfl

theorem max_at (x : FVec Ideal S4096x64x128 .f32) (r : Fin 4096) (j : Fin 64) :
    multiReduction .maximumf [2] S4096x64 (absf x) 0xFF800000#32 reduces_S4096x64x128_S4096x64 (.inl rfl) rfl (ix2 r j)
      = amax fun l => x (ix3 r j l) := by
  pointwise
  rfl

theorem amaxM_at (g : FVec Ideal S4096x8192 .f32) (q : Vec Ideal S4096x8192 .fp8e4m3) (s : Vec Ideal S4096x64 .f32) (r : Fin 4096) (j : Fin 64) :
    k0_pay8 (F := Ideal) g q s (ix2 r j) = amax fun l => k0_pay5 (F := Ideal) g q s (ix2 r (col j l)) := by
  refine (max_at (k0_pay7 (F := Ideal) g q s) r j).trans ?_
  exact congrArg amax (funext fun l => cast_at (k0_pay5 (F := Ideal) g q s) r j l)

theorem amaxV_at (x : FVec Ideal S4096x8192 .f32) (r : Fin 4096) (j : Fin 64) :
    k0_pay15 (F := Ideal) x (ix2 r j) = amax fun l => x (ix2 r (col j l)) := by
  refine (max_at (k0_pay14 (F := Ideal) x) r j).trans ?_
  exact congrArg amax (funext fun l => cast_at x r j l)

/-- The choice between zero and the rounded logarithm, as the printed select states it. -/
theorem select_expR (a t : EReal) :
    Scalar.select (IntOp.ori (BitVec.ofBool (decide (a = 0))) (BitVec.ofBool (decide (t = Ideal.ofBits .f32 0x7F800000#32)))) 0
      (max (Ideal.liftRound Int.floor (Ideal.div (Ideal.log t) (Named.named (F := Ideal) (φ := .f32) κ "ln2" 0x3F317218#32)) + 1) (Ideal.ofBits .f32 0xC2FC0000#32))
      = expR a t := by
  have h : (Ideal.ofBits .f32 0x7F800000#32 : EReal) = ⊤ := by
    simp [Ideal.ofBits, Ideal.ieee]
  rw [h, ln2_eq]
  unfold expR Scalar.select IntOp.ori
  by_cases ha : a = 0 <;> by_cases ht : t = ⊤ <;> simp [ha, ht]

theorem top_eq : (Ideal.ofBits .f32 0x7F800000#32 : EReal) = ⊤ := by simp [Ideal.ofBits, Ideal.ieee]
theorem bot_eq : (Ideal.ofBits .f32 0xFF800000#32 : EReal) = ⊥ := by simp [Ideal.ofBits, Ideal.ieee]

/-- The exponent from any array `A` of largest magnitudes. -/
theorem e_at (A : FVec Ideal S4096x64 .f32) (r : Fin 4096) (j : Fin 64) :
    k0_pay11 (F := Ideal) A (mulf A (broadcast S4096x64 (Scalar.ofBits .f32 0x3B124925#32)))
        (floor (divf (log (mulf A (broadcast S4096x64 (Scalar.ofBits .f32 0x3B124925#32)))) (broadcast S4096x64 (Named.named κ "ln2" 0x3F317218#32))))
        (Scalar.ofBits .f32 0x3F800000#32) (ix2 r j)
      = expR (A (ix2 r j)) (A (ix2 r j) * C 0x3B124925#32) := by
  rw [← select_expR]
  pointwise [k0_pay11]

theorem pay9_eq (g : FVec Ideal S4096x8192 .f32) (q : Vec Ideal S4096x8192 .fp8e4m3) (s : Vec Ideal S4096x64 .f32) :
    k0_pay9 (F := Ideal) g q s = mulf (k0_pay8 g q s) (broadcast S4096x64 (Scalar.ofBits .f32 0x3B124925#32)) := by
  unfold k0_pay9; rfl

theorem pay10_eq (g : FVec Ideal S4096x8192 .f32) (q : Vec Ideal S4096x8192 .fp8e4m3) (s : Vec Ideal S4096x64 .f32) :
    k0_pay10 (F := Ideal) g q s = floor (divf (log (k0_pay9 g q s)) (broadcast S4096x64 (Named.named κ "ln2" 0x3F317218#32))) := by
  unfold k0_pay10; rfl

/-- The first moment's exponent. -/
theorem eM_at (g : FVec Ideal S4096x8192 .f32) (q : Vec Ideal S4096x8192 .fp8e4m3) (s : Vec Ideal S4096x64 .f32) (r : Fin 4096) (j : Fin 64) :
    k0_pay11 (F := Ideal) (k0_pay8 g q s) (k0_pay9 g q s) (k0_pay10 g q s) (Scalar.ofBits .f32 0x3F800000#32) (ix2 r j)
      = expR (k0_pay8 (F := Ideal) g q s (ix2 r j)) (k0_pay8 (F := Ideal) g q s (ix2 r j) * C 0x3B124925#32) := by
  rw [pay10_eq, pay9_eq]
  exact e_at _ r j

theorem sM_at (a t e : FVec Ideal S4096x64 .f32) (c : EReal) (r : Fin 4096) (j : Fin 64) (a' t' : EReal)
    (h : k0_pay11 (F := Ideal) a t e c (ix2 r j) = expR a' t') :
    k0_pay12 (F := Ideal) a t e c (ix2 r j) = scaleR a' t' := by
  pointwise [k0_pay12]
  rw [h, top_eq]
  rfl

theorem cM_at (x : FVec Ideal S4096x64x128 .f32) (a t e : FVec Ideal S4096x64 .f32) (c : EReal) (r : Fin 4096) (k : Fin 8192) (a' t' : EReal)
    (h : k0_pay11 (F := Ideal) a t e c (ix2 r (grp k)) = expR a' t') :
    k0_pay13 (F := Ideal) x a t e c (ix2 r k) = code 0xC3E00000#32 0x43E00000#32 (x (ix3 r (grp k) (lane k))) (invR a' t') := by
  pointwise [k0_pay13]
  unfold grp at h
  rw [h, bot_eq]
  rfl

/-- The second moment's exponent. -/
theorem eV_at (a : FVec Ideal S4096x64 .f32) (r : Fin 4096) (j : Fin 64) :
    k0_pay17 (F := Ideal) a k0_pay16 (ix2 r j) = expR (a (ix2 r j)) (a (ix2 r j) * C 0x37924925#32) := by
  rw [← select_expR]
  pointwise [k0_pay17, k0_pay16]

theorem sV_at (a t : FVec Ideal S4096x64 .f32) (r : Fin 4096) (j : Fin 64) (a' t' : EReal)
    (h : k0_pay17 (F := Ideal) a t (ix2 r j) = expR a' t') :
    k0_pay18 (F := Ideal) a t (ix2 r j) = scaleR a' t' := by
  pointwise [k0_pay18]
  rw [h, top_eq]
  rfl

theorem cV_at (x : FVec Ideal S4096x64x128 .f32) (a t : FVec Ideal S4096x64 .f32) (r : Fin 4096) (k : Fin 8192) (a' t' : EReal)
    (h : k0_pay17 (F := Ideal) a t (ix2 r (grp k)) = expR a' t') :
    k0_pay19 (F := Ideal) x a t (ix2 r k) = code 0x00000000#32 0x47600000#32 (x (ix3 r (grp k) (lane k))) (invR a' t') := by
  pointwise [k0_pay19]
  unfold grp at h
  rw [h, bot_eq]
  unfold code
  rw [show C 0x00000000#32 = 0 by simp [C, Ideal.ofBits, Ideal.ieee]]
  rfl

theorem d_at (m v p : FVec Ideal S4096x8192 .f32) (b1 b2 : FVec Ideal S1x1 .f32) (r : Fin 4096) (k : Fin 8192) :
    k0_pay3 (F := Ideal) m v b1 b2 p (ix2 r k) = stepR (b1 (ix2 0 0)) (b2 (ix2 0 0)) (m (ix2 r k)) (v (ix2 r k)) (p (ix2 r k)) := by
  pointwise [k0_pay3]
  rfl

end Cert.RElem
-- ==== Proof.RHost.lean ====
/-
  The values the reference computes before its call: the clipped gradient and the two bias corrections.
-/
module

public import proofs.«01_k».proof.Proof.Host
public import proofs.«01_k».proof.Proof.Gen.ReferenceIdeal.Frame
public import Idealize.ShloMosaic.Lib.StableHlo.RunRead
public import Idealize.ShloMosaic.Lib.IdealHost

@[expose] public section
set_option maxRecDepth 16384
noncomputable section
namespace Cert.RHost
open Idealize.ShloMosaic Idealize.ShloMosaic.TcCoe Idealize.SL.Sem Cert.ReferenceIdeal Cert.ReferenceIdeal.Gen Cert.Spec Cert.Host

variable (m : (ℓ : Loc nD τ sig) → Buf (Elt Ideal) ℓ) (c : Dev nD)

theorem ix0_all (i : S_.Idx) : i = ix0 := funext fun a => a.elim0

theorem red (x : FVec Ideal S4096x8192 .f32) (i : S_.Idx) :
    (Host.reduceAdd (F := Ideal) (mulf x x) (constant S_ .f32 0x00000000#32) reducesTo_S4096x8192_S_d0_1 h_S_ i : EReal) = sumSq x := by
  rw [ValueIdx.hostReduceAdd_apply, Ideal.hostReduceAdd_total _ (fun b => b.elim0), sum_idx2]
  refine (congrArg (· + _ : EReal → EReal) (show _ = (0 : EReal) from ?_)).trans (zero_add _)
  show Ideal.ofBits .f32 0x00000000#32 = 0
  simp [Ideal.ofBits, Ideal.ieee]

theorem clip_of (x : FVec Ideal S4096x8192 .f32) (i : S_.Idx) :
    minimumf (constant (F := Ideal) S_ .f32 0x3F800000#32) (Host.divf (constant S_ .f32 0x3F800000#32)
        (addf (Host.sqrt (Host.reduceAdd (mulf x x) (constant S_ .f32 0x00000000#32) reducesTo_S4096x8192_S_d0_1 h_S_)) (constant S_ .f32 0x358637BD#32))) i
      = clip (sumSq x) := by
  rw [← red x i]; rfl

theorem bias_of (w : BitVec 32) (a : S_.Idx → BitVec 32) (i : S_.Idx) :
    subf (constant (F := Ideal) S_ .f32 0x3F800000#32) (Host.powf (constant S_ .f32 w) (sitofp .f32 a)) i = bias w (a ix0) := by
  rw [ix0_all i]; rfl

theorem clipped_of (x : FVec Ideal S4096x8192 .f32) (r : Fin 4096) (k : Fin 8192) (z : EReal) (h : z = clip (sumSq x)) :
    (x (ix2 r k) * z : EReal) = clipped x r k := by rw [h]

/-- The clipped gradient. -/
theorem v8 (r : Fin 4096) (k : Fin 8192) : (V m c main_v8 : S4096x8192.Idx → EReal) (ix2 r k)
    = clipped (m ((c : Thread nD τ).loc main_arg1)) r k := by
  unfold_abbrev_sides
  after_reads_simp
  exact clipped_of (m ((c : Thread nD τ).loc main_arg1)) r k _ (clip_of _ _)

/-- The bias corrections. -/
theorem v14 : (V m c main_v14 : S1x1.Idx → EReal) (ix2 0 0) = bias 0x3F666666#32 (stepOf (m ((c : Thread nD τ).loc main_arg6))) := by
  unfold_abbrev_sides
  after_reads_simp
  exact bias_of _ _ _

theorem v15 : (V m c main_v15 : S1x1.Idx → EReal) (ix2 0 0) = bias 0x3F7FBE77#32 (stepOf (m ((c : Thread nD τ).loc main_arg6))) := by
  unfold_abbrev_sides
  after_reads_simp
  exact bias_of _ _ _

end Cert.RHost
-- ==== Proof.RArr.lean ====
/-
  What the reference's one call leaves in each of its five result arrays, number by number.
-/
module

public import proofs.«01_k».proof.Proof.RElem
public import proofs.«01_k».proof.Proof.RHost
public import proofs.«01_k».proof.Proof.Result
public import proofs.«01_k».proof.Proof.Gen.ReferenceIdeal.Value
public import Idealize.ShloMosaic.Lib.Pipeline.ValueKit
public import Idealize.ShloMosaic.Lib.UnfoldOut

@[expose] public section
set_option maxRecDepth 16384
noncomputable section
namespace Cert.RArr
open Idealize.ShloMosaic Idealize.ShloMosaic.TcCoe Idealize.SL.Sem Cert.ReferenceIdeal Cert.ReferenceIdeal.Gen Cert.RElem Cert.Spec Cert.Host
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

theorem ix_0 : ∀ t : Fin cfg0.N, win0_0.index t = ![0, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![0, 0] := by decide +kernel
theorem ix_5 : ∀ t : Fin cfg0.N, win0_5.index t = ![0, 0] := by decide +kernel
theorem ix_6 : ∀ t : Fin cfg0.N, win0_6.index t = ![0, 0] := by decide +kernel
theorem ix_7 : ∀ t : Fin cfg0.N, win0_7.index t = ![0, 0] := by decide +kernel
theorem ix_8 : ∀ t : Fin cfg0.N, win0_8.index t = ![0, 0] := by decide +kernel
theorem ix_9 : ∀ t : Fin cfg0.N, win0_9.index t = ![0, 0] := by decide +kernel
theorem ix_10 : ∀ t : Fin cfg0.N, win0_10.index t = ![0, 0] := by decide +kernel
theorem ix_11 : ∀ t : Fin cfg0.N, win0_11.index t = ![0, 0] := by decide +kernel
theorem ix_12 : ∀ t : Fin cfg0.N, win0_12.index t = ![0, 0] := by decide +kernel

/-! ## The one block of each window is the whole array -/

theorem b0 (t : Fin cfg0.N) : iblk m c 0 t = V m c main_arg0 := by
  funext y
  obtain ⟨r, k, rfl⟩ : ∃ (r : Fin 4096) (k : Fin 8192), y = ix2 r k := ⟨y 0, y 1, eq_ix2 y⟩
  blk_ext [iblk, ix_0 t]
theorem b1 (t : Fin cfg0.N) : iblk m c 1 t = V m c main_v8 := by
  funext y
  obtain ⟨r, k, rfl⟩ : ∃ (r : Fin 4096) (k : Fin 8192), y = ix2 r k := ⟨y 0, y 1, eq_ix2 y⟩
  blk_ext [iblk, ix_1 t]
theorem b2 (t : Fin cfg0.N) : iblk m c 2 t = V m c main_arg2 := by
  funext y
  obtain ⟨r, k, rfl⟩ : ∃ (r : Fin 4096) (k : Fin 8192), y = ix2 r k := ⟨y 0, y 1, eq_ix2 y⟩
  blk_ext [iblk, ix_2 t]
theorem b3 (t : Fin cfg0.N) : iblk m c 3 t = V m c main_arg3 := by
  funext y
  obtain ⟨r, k, rfl⟩ : ∃ (r : Fin 4096) (k : Fin 64), y = ix2 r k := ⟨y 0, y 1, eq_ix2 y⟩
  blk_ext [iblk, ix_3 t]
theorem b4 (t : Fin cfg0.N) : iblk m c 4 t = V m c main_arg4 := by
  funext y
  obtain ⟨r, k, rfl⟩ : ∃ (r : Fin 4096) (k : Fin 8192), y = ix2 r k := ⟨y 0, y 1, eq_ix2 y⟩
  blk_ext [iblk, ix_4 t]
theorem b5 (t : Fin cfg0.N) : iblk m c 5 t = V m c main_arg5 := by
  funext y
  obtain ⟨r, k, rfl⟩ : ∃ (r : Fin 4096) (k : Fin 64), y = ix2 r k := ⟨y 0, y 1, eq_ix2 y⟩
  blk_ext [iblk, ix_5 t]
theorem b6 (t : Fin cfg0.N) : iblk m c 6 t = V m c main_v14 := by
  funext y
  obtain ⟨r, k, rfl⟩ : ∃ (r : Fin 1) (k : Fin 1), y = ix2 r k := ⟨y 0, y 1, eq_ix2 y⟩
  blk_ext [iblk, ix_6 t]
theorem b7 (t : Fin cfg0.N) : iblk m c 7 t = V m c main_v15 := by
  funext y
  obtain ⟨r, k, rfl⟩ : ∃ (r : Fin 1) (k : Fin 1), y = ix2 r k := ⟨y 0, y 1, eq_ix2 y⟩
  blk_ext [iblk, ix_7 t]

/-! ## The moments of the arrays -/

section Outs
variable (x0 x1 : Vec Ideal S4096x8192 .f32) (x2 : Vec Ideal S4096x8192 .fp8e4m3) (x3 : Vec Ideal S4096x64 .f32) (x4 : Vec Ideal S4096x8192 .fp8e5m2)
  (x5 : Vec Ideal S4096x64 .f32) (x6 x7 : Vec Ideal S1x1 .f32)

abbrev mR : Fin 4096 → Fin 8192 → EReal := mW (f2 x3) (f2 x2) (f2 x1)
abbrev vR : Fin 4096 → Fin 8192 → EReal := vW (f2 x5) (f2 x4) (f2 x1)

theorem aM (r : Fin 4096) (j : Fin 64) : k0_pay8 (F := Ideal) x1 x2 x3 (ix2 r j) = aW (mR x1 x2 x3) r j := by
  rw [amaxM_at]
  unfold aW
  simp only [m_at]
  rfl
theorem aV (r : Fin 4096) (j : Fin 64) : k0_pay15 (F := Ideal) (k0_pay6 x1 x4 x5) (ix2 r j) = aW (vR x1 x4 x5) r j := by
  rw [amaxV_at]
  unfold aW
  simp only [v_at]
  rfl

theorem o8 (r : Fin 4096) (k : Fin 8192) : out0_8 x0 x1 x2 x3 x4 x5 x6 x7 (ix2 r k)
    = stepR (x6 (ix2 0 0)) (x7 (ix2 0 0)) (mR x1 x2 x3 r k) (vR x1 x4 x5 r k) (x0 (ix2 r k)) := by
  unfold_out out0_8
  rw [View.canon_unit_zero hz]
  simp only [View.ld_unit_zero (S := S4096x8192) hz, View.ld_unit_zero (S := S4096x64) hz, View.ld_unit_zero (S := S1x1) hz]
  rw [d_at, m_at, v_at]
  rfl

theorem o9 (r : Fin 4096) (k : Fin 8192) : out0_9 x0 x1 x2 x3 x4 x5 x6 x7 (ix2 r k)
    = code 0xC3E00000#32 0x43E00000#32 (mR x1 x2 x3 r k) (invR (aW (mR x1 x2 x3) r (grp k)) (aW (mR x1 x2 x3) r (grp k) * C 0x3B124925#32)) := by
  unfold_out out0_9
  rw [View.canon_unit_zero hz]
  simp only [View.ld_unit_zero (S := S4096x8192) hz, View.ld_unit_zero (S := S4096x64) hz, View.ld_unit_zero (S := S1x1) hz]
  refine (cM_at _ _ _ _ _ r k _ _ (eM_at x1 x2 x3 r (grp k))).trans ?_
  rw [aM]
  refine congrArg (fun z => code _ _ z _) ?_
  refine (cast_at (k0_pay5 (F := Ideal) x1 x2 x3) r (grp k) (lane k)).trans ?_
  rw [col_grp_lane, m_at]
  rfl

theorem o10 (r : Fin 4096) (j : Fin 64) : out0_10 x0 x1 x2 x3 x4 x5 x6 x7 (ix2 r j)
    = scaleR (aW (mR x1 x2 x3) r j) (aW (mR x1 x2 x3) r j * C 0x3B124925#32) := by
  unfold_out out0_10
  rw [View.canon_unit_zero hz]
  simp only [View.ld_unit_zero (S := S4096x8192) hz, View.ld_unit_zero (S := S4096x64) hz, View.ld_unit_zero (S := S1x1) hz]
  refine (sM_at _ _ _ _ r j _ _ (eM_at x1 x2 x3 r j)).trans ?_
  rw [aM]

theorem o11 (r : Fin 4096) (k : Fin 8192) : out0_11 x0 x1 x2 x3 x4 x5 x6 x7 (ix2 r k)
    = code 0x00000000#32 0x47600000#32 (vR x1 x4 x5 r k) (invR (aW (vR x1 x4 x5) r (grp k)) (aW (vR x1 x4 x5) r (grp k) * C 0x37924925#32)) := by
  unfold_out out0_11
  rw [View.canon_unit_zero hz]
  simp only [View.ld_unit_zero (S := S4096x8192) hz, View.ld_unit_zero (S := S4096x64) hz, View.ld_unit_zero (S := S1x1) hz]
  refine (cV_at _ _ _ r k _ _ (eV_at _ r (grp k))).trans ?_
  rw [aV]
  refine congrArg (fun z => code _ _ z _) ?_
  refine (cast_at (k0_pay6 (F := Ideal) x1 x4 x5) r (grp k) (lane k)).trans ?_
  rw [col_grp_lane, v_at]
  rfl

theorem o12 (r : Fin 4096) (j : Fin 64) : out0_12 x0 x1 x2 x3 x4 x5 x6 x7 (ix2 r j)
    = scaleR (aW (vR x1 x4 x5) r j) (aW (vR x1 x4 x5) r j * C 0x37924925#32) := by
  unfold_out out0_12
  rw [View.canon_unit_zero hz]
  simp only [View.ld_unit_zero (S := S4096x8192) hz, View.ld_unit_zero (S := S4096x64) hz, View.ld_unit_zero (S := S1x1) hz]
  refine (sV_at _ _ r j _ _ (eV_at _ r j)).trans ?_
  rw [aV]
end Outs

/-! ## The five arrays -/

theorem mR_eq : mR (V m c main_v8) (V m c main_arg2) (V m c main_arg3) = newM (m ((c : Thread nD τ).loc main_arg1)) (m ((c : Thread nD τ).loc main_arg2)) (m ((c : Thread nD τ).loc main_arg3)) := by
  funext r k
  unfold mR newM mW f2
  rw [RHost.v8, V_main_arg2, V_main_arg3]
theorem vR_eq : vR (V m c main_v8) (V m c main_arg4) (V m c main_arg5) = newV (m ((c : Thread nD τ).loc main_arg1)) (m ((c : Thread nD τ).loc main_arg4)) (m ((c : Thread nD τ).loc main_arg5)) := by
  funext r k
  unfold vR newV vW f2
  rw [RHost.v8, V_main_arg4, V_main_arg5]

theorem emb8 (t : Fin cfg0.N) (r : Fin 4096) (k : Fin 8192) : (win0_8.blk t).view.emb (ix2 r k) = (ix2 r k : S4096x8192.Idx) := by
  blk_ext [ix_8 t]

/-- The parameters' steps. -/
theorem arr8 : (dats m 0 c).arrAt 8 cfg0.N = resStep (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (stepOf (m ((c : Thread nD τ).loc main_arg6))) := by
  refine (dats m 0 c).arrAt_eq_of_covers 8 _ (by decide +kernel) fun t hf y => ?_
  blk_simp
  rw [after0_8]
  obtain ⟨r, k, rfl⟩ : ∃ (r : Fin 4096) (k : Fin 8192), y = ix2 r k := ⟨y 0, y 1, eq_ix2 y⟩
  rw [emb8, b0, b1, b2, b3, b4, b5, b6, b7]
  refine (o8 _ _ _ _ _ _ _ _ r k).trans ?_
  rw [RHost.v14, RHost.v15, mR_eq, vR_eq, V_main_arg0]
  rfl

theorem emb9 (t : Fin cfg0.N) (r : Fin 4096) (k : Fin 8192) : (win0_9.blk t).view.emb (ix2 r k) = (ix2 r k : S4096x8192.Idx) := by
  blk_ext [ix_9 t]

/-- The first moment's codes. -/
theorem arr9 : (dats m 0 c).arrAt 9 cfg0.N = codes 0xC3E00000#32 0x43E00000#32 0x3B124925#32 (newM (m ((c : Thread nD τ).loc main_arg1)) (m ((c : Thread nD τ).loc main_arg2)) (m ((c : Thread nD τ).loc main_arg3))) := by
  refine (dats m 0 c).arrAt_eq_of_covers 9 _ (by decide +kernel) fun t hf y => ?_
  blk_simp
  rw [after0_9]
  obtain ⟨r, k, rfl⟩ : ∃ (r : Fin 4096) (k : Fin 8192), y = ix2 r k := ⟨y 0, y 1, eq_ix2 y⟩
  rw [emb9, b0, b1, b2, b3, b4, b5, b6, b7]
  refine (o9 _ _ _ _ _ _ _ _ r k).trans ?_
  rw [mR_eq]
  rfl

theorem emb10 (t : Fin cfg0.N) (r : Fin 4096) (k : Fin 64) : (win0_10.blk t).view.emb (ix2 r k) = (ix2 r k : S4096x64.Idx) := by
  blk_ext [ix_10 t]

/-- The first moment's scales. -/
theorem arr10 : (dats m 0 c).arrAt 10 cfg0.N = scalesOf 0x3B124925#32 (newM (m ((c : Thread nD τ).loc main_arg1)) (m ((c : Thread nD τ).loc main_arg2)) (m ((c : Thread nD τ).loc main_arg3))) := by
  refine (dats m 0 c).arrAt_eq_of_covers 10 _ (by decide +kernel) fun t hf y => ?_
  blk_simp
  rw [after0_10]
  obtain ⟨r, k, rfl⟩ : ∃ (r : Fin 4096) (k : Fin 64), y = ix2 r k := ⟨y 0, y 1, eq_ix2 y⟩
  rw [emb10, b0, b1, b2, b3, b4, b5, b6, b7]
  refine (o10 _ _ _ _ _ _ _ _ r k).trans ?_
  rw [mR_eq]
  rfl

theorem emb11 (t : Fin cfg0.N) (r : Fin 4096) (k : Fin 8192) : (win0_11.blk t).view.emb (ix2 r k) = (ix2 r k : S4096x8192.Idx) := by
  blk_ext [ix_11 t]

/-- The second moment's codes. -/
theorem arr11 : (dats m 0 c).arrAt 11 cfg0.N = codes 0x00000000#32 0x47600000#32 0x37924925#32 (newV (m ((c : Thread nD τ).loc main_arg1)) (m ((c : Thread nD τ).loc main_arg4)) (m ((c : Thread nD τ).loc main_arg5))) := by
  refine (dats m 0 c).arrAt_eq_of_covers 11 _ (by decide +kernel) fun t hf y => ?_
  blk_simp
  rw [after0_11]
  obtain ⟨r, k, rfl⟩ : ∃ (r : Fin 4096) (k : Fin 8192), y = ix2 r k := ⟨y 0, y 1, eq_ix2 y⟩
  rw [emb11, b0, b1, b2, b3, b4, b5, b6, b7]
  refine (o11 _ _ _ _ _ _ _ _ r k).trans ?_
  rw [vR_eq]
  rfl

theorem emb12 (t : Fin cfg0.N) (r : Fin 4096) (k : Fin 64) : (win0_12.blk t).view.emb (ix2 r k) = (ix2 r k : S4096x64.Idx) := by
  blk_ext [ix_12 t]

/-- The second moment's scales. -/
theorem arr12 : (dats m 0 c).arrAt 12 cfg0.N = scalesOf 0x37924925#32 (newV (m ((c : Thread nD τ).loc main_arg1)) (m ((c : Thread nD τ).loc main_arg4)) (m ((c : Thread nD τ).loc main_arg5))) := by
  refine (dats m 0 c).arrAt_eq_of_covers 12 _ (by decide +kernel) fun t hf y => ?_
  blk_simp
  rw [after0_12]
  obtain ⟨r, k, rfl⟩ : ∃ (r : Fin 4096) (k : Fin 64), y = ix2 r k := ⟨y 0, y 1, eq_ix2 y⟩
  rw [emb12, b0, b1, b2, b3, b4, b5, b6, b7]
  refine (o12 _ _ _ _ _ _ _ _ r k).trans ?_
  rw [vR_eq]
  rfl

/-- The reference's run, its results as functions of its arguments. -/
theorem run (ρ : Dev nD → PrngReg) : θ_run defs (onTc (τ := τ) (main (F := Ideal))) ⟨m, fun _ => 0, ρ⟩ (fun r => ∀ c : Dev nD,
      r.2.mem ((c.tc : Thread nD τ).loc main_v16_0) = resStep (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (stepOf (m ((c.tc : Thread nD τ).loc main_arg6)))
      ∧ r.2.mem ((c.tc : Thread nD τ).loc main_v16_1) = codes 0xC3E00000#32 0x43E00000#32 0x3B124925#32 (newM (m ((c.tc : Thread nD τ).loc main_arg1)) (m ((c.tc : Thread nD τ).loc main_arg2)) (m ((c.tc : Thread nD τ).loc main_arg3)))
      ∧ r.2.mem ((c.tc : Thread nD τ).loc main_v16_2) = scalesOf 0x3B124925#32 (newM (m ((c.tc : Thread nD τ).loc main_arg1)) (m ((c.tc : Thread nD τ).loc main_arg2)) (m ((c.tc : Thread nD τ).loc main_arg3)))
      ∧ r.2.mem ((c.tc : Thread nD τ).loc main_v16_3) = codes 0x00000000#32 0x47600000#32 0x37924925#32 (newV (m ((c.tc : Thread nD τ).loc main_arg1)) (m ((c.tc : Thread nD τ).loc main_arg4)) (m ((c.tc : Thread nD τ).loc main_arg5)))
      ∧ r.2.mem ((c.tc : Thread nD τ).loc main_v16_4) = scalesOf 0x37924925#32 (newV (m ((c.tc : Thread nD τ).loc main_arg1)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h0, h1, h2, h3, h4, ha⟩ := h c
    exact ⟨h0.trans (arr8 m c), h1.trans (arr9 m c), h2.trans (arr10 m c), h3.trans (arr11 m c), h4.trans (arr12 m c), ha⟩)
    (Value.run_blocks m ρ)

end Cert.RArr
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.KRun
public import proofs.«01_k».proof.Proof.KValue
public import proofs.«01_k».proof.Proof.RArr
public import Idealize.ShloMosaic.Adequacy
public import Idealize.ShloMosaic.Init

@[expose] public section

set_option maxRecDepth 16384

noncomputable section

namespace Cert.Proof

open Idealize.ShloMosaic Idealize.SL.Sem

/-- The predicate says that the step number is not zero. -/
theorem step_ne [Cert.Pre_step_not_zero.Facts] (m : (ℓ : Loc Cert.KernelIdeal.nD Cert.KernelIdeal.τ Cert.KernelIdeal.sig) → Buf (Elt Ideal) ℓ)
    (h : Cert.Pre_KernelIdeal_step_not_zero m) (c : Dev Cert.KernelIdeal.nD) :
    Cert.Host.stepOf (m ((c.tc : Thread Cert.KernelIdeal.nD Cert.KernelIdeal.τ).loc Cert.KernelIdeal.main_arg6)) ≠ 0#32 := by
  intro e
  have h1 := congrFun (h c) ix0
  have h2 : IntOp.cmpi .ne (Cert.Host.stepOf (m ((c.tc : Thread Cert.KernelIdeal.nD Cert.KernelIdeal.τ).loc Cert.KernelIdeal.main_arg6))) 0#32 = 1#1 := h1
  rw [e] at h2
  exact absurd h2 (by decide)

/-- Both programs leave the same five arrays. -/
theorem algebraic [Cert.Pre_step_not_zero.Facts] :
    Cert.algebraic_KernelIdeal_ReferenceIdeal_pre_step_not_zero (hKernelIdeal := Cert.KernelIdeal.Gen.facts)
      (hReferenceIdeal := Cert.ReferenceIdeal.Gen.facts) := by
  intro m g m' g' hpre hm
  refine ⟨fun c => Cert.Spec.resStep (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.Host.stepOf (m ((c.tc : Thread Cert.KernelIdeal.nD Cert.KernelIdeal.τ).loc Cert.KernelIdeal.main_arg6))),
    fun c => Cert.Spec.codes 0xC3E00000#32 0x43E00000#32 0x3B124925#32 (Cert.Spec.newM (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c => Cert.Spec.scalesOf 0x3B124925#32 (Cert.Spec.newM (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c => Cert.Spec.codes 0x00000000#32 0x47600000#32 0x37924925#32 (Cert.Spec.newV (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => Cert.Spec.scalesOf 0x37924925#32 (Cert.Spec.newV (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    Cert.KValue.run m g (step_ne m hpre), (θ_run _ _ _).mono (fun r h c => ?_) (Cert.RArr.run m' g')⟩
  obtain ⟨h0, h1, h2, h3, h4, ha⟩ := h c
  obtain ⟨e0, e1, e2, e3, e4, e5, e6⟩ := hm c
  refine ⟨h0.trans ?_, h1.trans ?_, h2.trans ?_, h3.trans ?_, h4.trans ?_, ha⟩
  · exact Cert.Spec.resStep_congr e0 e1 e2 e3 e4 e5 e6
  · exact congrArg (Cert.Spec.codes _ _ _) (Cert.Spec.newM_congr e1 e2 e3)
  · exact congrArg (Cert.Spec.scalesOf _) (Cert.Spec.newM_congr e1 e2 e3)
  · exact congrArg (Cert.Spec.codes _ _ _) (Cert.Spec.newV_congr e1 e4 e5)
  · exact congrArg (Cert.Spec.scalesOf _) (Cert.Spec.newV_congr e1 e4 e5)

/-- Everything claimed. -/
theorem claim : Cert.Claim :=
  ⟨Cert.Kernel.Gen.facts, Cert.KernelIdeal.Gen.facts, Cert.ReferenceIdeal.Gen.facts, ⟨⟩,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, @algebraic ⟨⟩⟩

end Cert.Proof

end
